-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capacity_KernelIdeal [hPre_capacity_KernelIdeal : Cert.Pre_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capacity_ReferenceIdeal [hPre_capacity_ReferenceIdeal : Cert.Pre_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_capacity_KernelIdeal [hKernelIdeal : Cert.KernelIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_capacity_ReferenceIdeal [hReferenceIdeal : Cert.ReferenceIdeal.Facts] [hPre_capacity_ReferenceIdeal : Cert.Pre_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_capacity_KernelIdeal [hKernelIdeal : Cert.KernelIdeal.Facts] [hReferenceIdeal : Cert.ReferenceIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_capacity_KernelIdeal : Cert.Pre_capacity_KernelIdeal.Facts) (hPre_capacity_ReferenceIdeal : Cert.Pre_capacity_ReferenceIdeal.Facts),
    quiescent_Kernel (hKernel := hKernel)
    ∧ quiescent_KernelIdeal (hKernelIdeal := hKernelIdeal)
    ∧ quiescent_KernelIdeal_pre_capacity_KernelIdeal (hKernelIdeal := hKernelIdeal) (hPre_capacity_KernelIdeal := hPre_capacity_KernelIdeal)
    ∧ quiescent_ReferenceIdeal (hReferenceIdeal := hReferenceIdeal)
    ∧ quiescent_ReferenceIdeal_pre_capacity_ReferenceIdeal (hReferenceIdeal := hReferenceIdeal) (hPre_capacity_ReferenceIdeal := hPre_capacity_ReferenceIdeal)
    ∧ preserves_Kernel_KernelIdeal
    ∧ algebraic_KernelIdeal_ReferenceIdeal_pre_capacity_KernelIdeal (hKernelIdeal := hKernelIdeal) (hReferenceIdeal := hReferenceIdeal) (hPre_capacity_KernelIdeal := hPre_capacity_KernelIdeal)
-- ==== Pre_capacity_KernelIdeal.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S256x512 : Shape := ⟨2, ![256, 512]⟩
abbrev S32x32 : Shape := ⟨2, ![32, 32]⟩
abbrev S32x32x1 : Shape := ⟨3, ![32, 32, 1]⟩
abbrev S32 : Shape := ⟨1, ![32]⟩
abbrev S1x1x32 : Shape := ⟨3, ![1, 1, 32]⟩
abbrev S_ : Shape := ⟨0, ![]⟩
abbrev S32x32x32 : Shape := ⟨3, ![32, 32, 32]⟩

class Facts : Prop where
  shapeCasts_S1024x1_S32x32 : S1024x1.ShapeCasts S32x32
  bcast_S32x32_S32x32x1_0_1 : S32x32.BroadcastsInDim S32x32x1 (![0, 1] : Fin 2 → Fin S32x32x1.rank)
  bcast_S32_S1x1x32_2 : S32.BroadcastsInDim S1x1x32 (![2] : Fin 1 → Fin S1x1x32.rank)
  bcast_S_S1x1x32 : S_.BroadcastsInDim S1x1x32 (![] : Fin 0 → Fin S1x1x32.rank)
  bcast_S32x32x1_S32x32x32_0_1_2 : S32x32x1.BroadcastsInDim S32x32x32 (![0, 1, 2] : Fin 3 → Fin S32x32x32.rank)
  bcast_S1x1x32_S32x32x32_0_1_2 : S1x1x32.BroadcastsInDim S32x32x32 (![0, 1, 2] : Fin 3 → Fin S32x32x32.rank)
  natLt_1_32 : 1 < 32
  reducesTo_S32x32x32_S32x32_d1 : S32x32x32.ReducesTo [1] S32x32
  h_S_ : 0 < S_.numel
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_v18 : IVec S32x32 1) (main_c_3 : IVec S_ 1) : IVec S_ 1 :=
  let main_v19 : IVec S_ 1 := (fun x v => Host.reduce IntOp.andi x v reducesTo_S32x32_S_d0_1 h_S_) main_v18 main_c_3
  main_v19

def fn {F : FTy → Type} [FloatOps F] (main_arg0 : FVec F S1024x256 .f32) (main_arg1 : FVec F S256x128 .f32) (main_arg2 : IVec S1024x1 32) (main_arg3 : FVec F S4x256x512 .f32) (main_arg4 : FVec F S256x512 .f32) : IVec S_ 1 :=
  let main_v0 : IVec S32x32 32 := shapeCast S32x32 main_arg2 shapeCasts_S1024x1_S32x32
  let main_v1 : IVec S32x32x1 32 := broadcastInDim S32x32x1 ![0, 1] bcast_S32x32_S32x32x1_0_1 main_v0
  let main_v2 : IVec S32 32 := iotaInDim S32 32 0
  let main_v3 : IVec S1x1x32 32 := broadcastInDim S1x1x32 ![2] bcast_S32_S1x1x32_2 main_v2
  let main_c : IVec S_ 32 := constantI S_ 32 4#32
  let main_v4 : IVec S1x1x32 32 := broadcastInDim S1x1x32 ![] bcast_S_S1x1x32 main_c
  let main_v5 : IVec S1x1x32 32 := muli main_v4 main_v3
  let main_v6 : IVec S32x32x32 32 := broadcastInDim S32x32x32 ![0, 1, 2] bcast_S32x32x1_S32x32x32_0_1_2 main_v1
  let main_v7 : IVec S32x32x32 32 := broadcastInDim S32x32x32 ![0, 1, 2] bcast_S1x1x32_S32x32x32_0_1_2 main_v5
  let main_v8 : IVec S32x32x32 1 := cmpi .sge main_v6 main_v7
  let main_c_0 : IVec S_ 32 := constantI S_ 32 4#32
  let main_v9 : IVec S1x1x32 32 := broadcastInDim S1x1x32 ![] bcast_S_S1x1x32 main_c_0
  let main_v10 : IVec S1x1x32 32 := addi main_v5 main_v9
  let main_v11 : IVec S32x32x32 32 := broadcastInDim S32x32x32 ![0, 1, 2] bcast_S32x32x1_S32x32x32_0_1_2 main_v1
  let main_v12 : IVec S32x32x32 32 := broadcastInDim S32x32x32 ![0, 1, 2] bcast_S1x1x32_S32x32x32_0_1_2 main_v10
  let main_v13 : IVec S32x32x32 1 := cmpi .slt main_v11 main_v12
  let main_v14 : IVec S32x32x32 1 := andi main_v8 main_v13
  let main_v15 : IVec S32x32x32 32 := (extui 32 · natLt_1_32) main_v14
  let main_c_1 : IVec S_ 32 := constantI S_ 32 0#32
  let main_v16 : IVec S32x32 32 := (fun x v => Host.reduce IntOp.addi x v reducesTo_S32x32x32_S32x32_d1 h_S_) main_v15 main_c_1
  let main_c_2 : IVec S_ 32 := constantI S_ 32 8#32
  let main_v17 : IVec S32x32 32 := broadcastInDim S32x32 ![] bcast_S_S32x32 main_c_2
  let main_v18 : IVec S32x32 1 := cmpi .sle main_v16 main_v17
  let main_c_3 : IVec S_ 1 := constantI S_ 1 1#1
  fn_part1 (F := F) main_v18 main_c_3
-- ==== Pre_capacity_ReferenceIdeal.lean ====
abbrev S1024x256 : Shape := ⟨2, ![1024, 256]⟩
abbrev S256x128 : Shape := ⟨2, ![256, 128]⟩
abbrev S1024x1 : Shape := ⟨2, ![1024, 1]⟩
abbrev S128x256x512 : Shape := ⟨3, ![128, 256, 512]⟩
abbrev S256x512 : Shape := ⟨2, ![256, 512]⟩
abbrev S32x32 : Shape := ⟨2, ![32, 32]⟩
abbrev S32x32x1 : Shape := ⟨3, ![32, 32, 1]⟩
abbrev S32 : Shape := ⟨1, ![32]⟩
abbrev S1x1x32 : Shape := ⟨3, ![1, 1, 32]⟩
abbrev S_ : Shape := ⟨0, ![]⟩
abbrev S32x32x32 : Shape := ⟨3, ![32, 32, 32]⟩

class Facts : Prop where
  shapeCasts_S1024x1_S32x32 : S1024x1.ShapeCasts S32x32
  bcast_S32x32_S32x32x1_0_1 : S32x32.BroadcastsInDim S32x32x1 (![0, 1] : Fin 2 → Fin S32x32x1.rank)
  bcast_S32_S1x1x32_2 : S32.BroadcastsInDim S1x1x32 (![2] : Fin 1 → Fin S1x1x32.rank)
  bcast_S_S1x1x32 : S_.BroadcastsInDim S1x1x32 (![] : Fin 0 → Fin S1x1x32.rank)
  bcast_S32x32x1_S32x32x32_0_1_2 : S32x32x1.BroadcastsInDim S32x32x32 (![0, 1, 2] : Fin 3 → Fin S32x32x32.rank)
  bcast_S1x1x32_S32x32x32_0_1_2 : S1x1x32.BroadcastsInDim S32x32x32 (![0, 1, 2] : Fin 3 → Fin S32x32x32.rank)
  natLt_1_32 : 1 < 32
  reducesTo_S32x32x32_S32x32_d1 : S32x32x32.ReducesTo [1] S32x32
  h_S_ : 0 < S_.numel
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_v18 : IVec S32x32 1) (main_c_3 : IVec S_ 1) : IVec S_ 1 :=
  let main_v19 : IVec S_ 1 := (fun x v => Host.reduce IntOp.andi x v reducesTo_S32x32_S_d0_1 h_S_) main_v18 main_c_3
  main_v19

def fn {F : FTy → Type} [FloatOps F] (main_arg0 : FVec F S1024x256 .f32) (main_arg1 : FVec F S256x128 .f32) (main_arg2 : IVec S1024x1 32) (main_arg3 : FVec F S128x256x512 .f32) (main_arg4 : FVec F S256x512 .f32) : IVec S_ 1 :=
  let main_v0 : IVec S32x32 32 := shapeCast S32x32 main_arg2 shapeCasts_S1024x1_S32x32
  let main_v1 : IVec S32x32x1 32 := broadcastInDim S32x32x1 ![0, 1] bcast_S32x32_S32x32x1_0_1 main_v0
  let main_v2 : IVec S32 32 := iotaInDim S32 32 0
  let main_v3 : IVec S1x1x32 32 := broadcastInDim S1x1x32 ![2] bcast_S32_S1x1x32_2 main_v2
  let main_c : IVec S_ 32 := constantI S_ 32 4#32
  let main_v4 : IVec S1x1x32 32 := broadcastInDim S1x1x32 ![] bcast_S_S1x1x32 main_c
  let main_v5 : IVec S1x1x32 32 := muli main_v4 main_v3
  let main_v6 : IVec S32x32x32 32 := broadcastInDim S32x32x32 ![0, 1, 2] bcast_S32x32x1_S32x32x32_0_1_2 main_v1
  let main_v7 : IVec S32x32x32 32 := broadcastInDim S32x32x32 ![0, 1, 2] bcast_S1x1x32_S32x32x32_0_1_2 main_v5
  let main_v8 : IVec S32x32x32 1 := cmpi .sge main_v6 main_v7
  let main_c_0 : IVec S_ 32 := constantI S_ 32 4#32
  let main_v9 : IVec S1x1x32 32 := broadcastInDim S1x1x32 ![] bcast_S_S1x1x32 main_c_0
  let main_v10 : IVec S1x1x32 32 := addi main_v5 main_v9
  let main_v11 : IVec S32x32x32 32 := broadcastInDim S32x32x32 ![0, 1, 2] bcast_S32x32x1_S32x32x32_0_1_2 main_v1
  let main_v12 : IVec S32x32x32 32 := broadcastInDim S32x32x32 ![0, 1, 2] bcast_S1x1x32_S32x32x32_0_1_2 main_v10
  let main_v13 : IVec S32x32x32 1 := cmpi .slt main_v11 main_v12
  let main_v14 : IVec S32x32x32 1 := andi main_v8 main_v13
  let main_v15 : IVec S32x32x32 32 := (extui 32 · natLt_1_32) main_v14
  let main_c_1 : IVec S_ 32 := constantI S_ 32 0#32
  let main_v16 : IVec S32x32 32 := (fun x v => Host.reduce IntOp.addi x v reducesTo_S32x32x32_S32x32_d1 h_S_) main_v15 main_c_1
  let main_c_2 : IVec S_ 32 := constantI S_ 32 8#32
  let main_v17 : IVec S32x32 32 := broadcastInDim S32x32 ![] bcast_S_S32x32 main_c_2
  let main_v18 : IVec S32x32 1 := cmpi .sle main_v16 main_v17
  let main_c_3 : IVec S_ 1 := constantI S_ 1 1#1
  fn_part1 (F := F) main_v18 main_c_3
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S1024x2 : Shape := ⟨2, ![1024, 2]⟩
abbrev S31 : Shape := ⟨1, ![31]⟩
abbrev S_ : Shape := ⟨0, ![]⟩
abbrev S1024x128 : Shape := ⟨2, ![1024, 128]⟩
abbrev S1024 : Shape := ⟨1, ![1024]⟩
abbrev S1024x1024 : Shape := ⟨2, ![1024, 1024]⟩
abbrev S1024x32 : Shape := ⟨2, ![1024, 32]⟩
abbrev S256x8 : Shape := ⟨2, ![256, 8]⟩
abbrev S1024x8 : Shape := ⟨2, ![1024, 8]⟩
abbrev S256x1024 : Shape := ⟨2, ![256, 1024]⟩
abbrev S256x32 : Shape := ⟨2, ![256, 32]⟩
abbrev S256x256 : Shape := ⟨2, ![256, 256]⟩
abbrev S256x1 : Shape := ⟨2, ![256, 1]⟩
abbrev S1x256x512 : Shape := ⟨3, ![1, 256, 512]⟩
abbrev S1 : Shape := ⟨1, ![1]⟩
abbrev S8x512 : Shape := ⟨2, ![8, 512]⟩
abbrev S32x256 : Shape := ⟨2, ![32, 256]⟩
abbrev S32x512 : Shape := ⟨2, ![32, 512]⟩
abbrev S32x1 : Shape := ⟨2, ![32, 1]⟩

abbrev nBuf : Space → Nat
  | .hbm => 6
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x128, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S256x512, .bf16⟩
  | .local _ .vmem, ⟨7, _⟩ => ⟨S256x512, .bf16⟩
  | .local _ .vmem, ⟨8, _⟩ => ⟨S1024x512, .bf16⟩
  | .local _ .vmem, ⟨9, _⟩ => ⟨S1024x2, .f32⟩
  | _, _ => ⟨S1024x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_227 : BitVec 32 := 1#32
  let v416 : BitVec 32 := Scalar.addi v2 c1_i32_227
  let c32_i32_228 : BitVec 32 := 32#32
  let v417 : BitVec 32 := Scalar.remsi v416 c32_i32_228
  let c1_i32_231 : BitVec 32 := 1#32
  let v418 : BitVec 32 := Scalar.muli v417 c1_i32_231
  let v419 : BitVec 32 := Scalar.addi c0_i32_232 v418
  v419.toNat
def k0_dev33 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_237 : BitVec 32 := 2#32
  let v426 : BitVec 32 := Scalar.addi v2 c2_i32_237
  let c32_i32_238 : BitVec 32 := 32#32
  let v427 : BitVec 32 := Scalar.remsi v426 c32_i32_238
  let c1_i32_241 : BitVec 32 := 1#32
  let v428 : BitVec 32 := Scalar.muli v427 c1_i32_241
  let v429 : BitVec 32 := Scalar.addi c0_i32_242 v428
  v429.toNat
def k0_dev34 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_247 : BitVec 32 := 3#32
  let v436 : BitVec 32 := Scalar.addi v2 c3_i32_247
  let c32_i32_248 : BitVec 32 := 32#32
  let v437 : BitVec 32 := Scalar.remsi v436 c32_i32_248
  let c1_i32_251 : BitVec 32 := 1#32
  let v438 : BitVec 32 := Scalar.muli v437 c1_i32_251
  let v439 : BitVec 32 := Scalar.addi c0_i32_252 v438
  v439.toNat
def k0_dev35 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_257 : BitVec 32 := 4#32
  let v446 : BitVec 32 := Scalar.addi v2 c4_i32_257
  let c32_i32_258 : BitVec 32 := 32#32
  let v447 : BitVec 32 := Scalar.remsi v446 c32_i32_258
  let c1_i32_261 : BitVec 32 := 1#32
  let v448 : BitVec 32 := Scalar.muli v447 c1_i32_261
  let v449 : BitVec 32 := Scalar.addi c0_i32_262 v448
  v449.toNat
def k0_dev36 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_267 : BitVec 32 := 5#32
  let v456 : BitVec 32 := Scalar.addi v2 c5_i32_267
  let c32_i32_268 : BitVec 32 := 32#32
  let v457 : BitVec 32 := Scalar.remsi v456 c32_i32_268
  let c1_i32_271 : BitVec 32 := 1#32
  let v458 : BitVec 32 := Scalar.muli v457 c1_i32_271
  let v459 : BitVec 32 := Scalar.addi c0_i32_272 v458
  v459.toNat
def k0_dev37 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_276 : BitVec 32 := 6#32
  let v466 : BitVec 32 := Scalar.addi v2 c6_i32_276
  let c32_i32_277 : BitVec 32 := 32#32
  let v467 : BitVec 32 := Scalar.remsi v466 c32_i32_277
  let c1_i32_280 : BitVec 32 := 1#32
  let v468 : BitVec 32 := Scalar.muli v467 c1_i32_280
  let v469 : BitVec 32 := Scalar.addi c0_i32_281 v468
  v469.toNat
def k0_dev38 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_285 : BitVec 32 := 7#32
  let v476 : BitVec 32 := Scalar.addi v2 c7_i32_285
  let c32_i32_286 : BitVec 32 := 32#32
  let v477 : BitVec 32 := Scalar.remsi v476 c32_i32_286
  let c1_i32_289 : BitVec 32 := 1#32
  let v478 : BitVec 32 := Scalar.muli v477 c1_i32_289
  let v479 : BitVec 32 := Scalar.addi c0_i32_290 v478
  v479.toNat
def k0_dev39 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_294 : BitVec 32 := 8#32
  let v486 : BitVec 32 := Scalar.addi v2 c8_i32_294
  let c32_i32_295 : BitVec 32 := 32#32
  let v487 : BitVec 32 := Scalar.remsi v486 c32_i32_295
  let c1_i32_298 : BitVec 32 := 1#32
  let v488 : BitVec 32 := Scalar.muli v487 c1_i32_298
  let v489 : BitVec 32 := Scalar.addi c0_i32_299 v488
  v489.toNat
def k0_dev40 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_303 : BitVec 32 := 9#32
  let v496 : BitVec 32 := Scalar.addi v2 c9_i32_303
  let c32_i32_304 : BitVec 32 := 32#32
  let v497 : BitVec 32 := Scalar.remsi v496 c32_i32_304
  let c1_i32_307 : BitVec 32 := 1#32
  let v498 : BitVec 32 := Scalar.muli v497 c1_i32_307
  let v499 : BitVec 32 := Scalar.addi c0_i32_308 v498
  v499.toNat
def k0_dev41 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_312 : BitVec 32 := 10#32
  let v506 : BitVec 32 := Scalar.addi v2 c10_i32_312
  let c32_i32_313 : BitVec 32 := 32#32
  let v507 : BitVec 32 := Scalar.remsi v506 c32_i32_313
  let c1_i32_316 : BitVec 32 := 1#32
  let v508 : BitVec 32 := Scalar.muli v507 c1_i32_316
  let v509 : BitVec 32 := Scalar.addi c0_i32_317 v508
  v509.toNat
def k0_dev42 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_321 : BitVec 32 := 11#32
  let v516 : BitVec 32 := Scalar.addi v2 c11_i32_321
  let c32_i32_322 : BitVec 32 := 32#32
  let v517 : BitVec 32 := Scalar.remsi v516 c32_i32_322
  let c1_i32_325 : BitVec 32 := 1#32
  let v518 : BitVec 32 := Scalar.muli v517 c1_i32_325
  let v519 : BitVec 32 := Scalar.addi c0_i32_326 v518
  v519.toNat
def k0_dev43 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_330 : BitVec 32 := 12#32
  let v526 : BitVec 32 := Scalar.addi v2 c12_i32_330
  let c32_i32_331 : BitVec 32 := 32#32
  let v527 : BitVec 32 := Scalar.remsi v526 c32_i32_331
  let c1_i32_334 : BitVec 32 := 1#32
  let v528 : BitVec 32 := Scalar.muli v527 c1_i32_334
  let v529 : BitVec 32 := Scalar.addi c0_i32_335 v528
  v529.toNat
def k0_dev44 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_339 : BitVec 32 := 13#32
  let v536 : BitVec 32 := Scalar.addi v2 c13_i32_339
  let c32_i32_340 : BitVec 32 := 32#32
  let v537 : BitVec 32 := Scalar.remsi v536 c32_i32_340
  let c1_i32_343 : BitVec 32 := 1#32
  let v538 : BitVec 32 := Scalar.muli v537 c1_i32_343
  let v539 : BitVec 32 := Scalar.addi c0_i32_344 v538
  v539.toNat
def k0_dev45 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_348 : BitVec 32 := 14#32
  let v546 : BitVec 32 := Scalar.addi v2 c14_i32_348
  let c32_i32_349 : BitVec 32 := 32#32
  let v547 : BitVec 32 := Scalar.remsi v546 c32_i32_349
  let c1_i32_352 : BitVec 32 := 1#32
  let v548 : BitVec 32 := Scalar.muli v547 c1_i32_352
  let v549 : BitVec 32 := Scalar.addi c0_i32_353 v548
  v549.toNat
def k0_dev46 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_357 : BitVec 32 := 15#32
  let v556 : BitVec 32 := Scalar.addi v2 c15_i32_357
  let c32_i32_358 : BitVec 32 := 32#32
  let v557 : BitVec 32 := Scalar.remsi v556 c32_i32_358
  let c1_i32_361 : BitVec 32 := 1#32
  let v558 : BitVec 32 := Scalar.muli v557 c1_i32_361
  let v559 : BitVec 32 := Scalar.addi c0_i32_362 v558
  v559.toNat
def k0_dev47 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_366 : BitVec 32 := 16#32
  let v566 : BitVec 32 := Scalar.addi v2 c16_i32_366
  let c32_i32_367 : BitVec 32 := 32#32
  let v567 : BitVec 32 := Scalar.remsi v566 c32_i32_367
  let c1_i32_370 : BitVec 32 := 1#32
  let v568 : BitVec 32 := Scalar.muli v567 c1_i32_370
  let v569 : BitVec 32 := Scalar.addi c0_i32_371 v568
  v569.toNat
def k0_dev48 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_375 : BitVec 32 := 17#32
  let v576 : BitVec 32 := Scalar.addi v2 c17_i32_375
  let c32_i32_376 : BitVec 32 := 32#32
  let v577 : BitVec 32 := Scalar.remsi v576 c32_i32_376
  let c1_i32_379 : BitVec 32 := 1#32
  let v578 : BitVec 32 := Scalar.muli v577 c1_i32_379
  let v579 : BitVec 32 := Scalar.addi c0_i32_380 v578
  v579.toNat
def k0_dev49 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_384 : BitVec 32 := 18#32
  let v586 : BitVec 32 := Scalar.addi v2 c18_i32_384
  let c32_i32_385 : BitVec 32 := 32#32
  let v587 : BitVec 32 := Scalar.remsi v586 c32_i32_385
  let c1_i32_388 : BitVec 32 := 1#32
  let v588 : BitVec 32 := Scalar.muli v587 c1_i32_388
  let v589 : BitVec 32 := Scalar.addi c0_i32_389 v588
  v589.toNat
def k0_dev50 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_393 : BitVec 32 := 19#32
  let v596 : BitVec 32 := Scalar.addi v2 c19_i32_393
  let c32_i32_394 : BitVec 32 := 32#32
  let v597 : BitVec 32 := Scalar.remsi v596 c32_i32_394
  let c1_i32_397 : BitVec 32 := 1#32
  let v598 : BitVec 32 := Scalar.muli v597 c1_i32_397
  let v599 : BitVec 32 := Scalar.addi c0_i32_398 v598
  v599.toNat
def k0_dev51 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_402 : BitVec 32 := 20#32
  let v606 : BitVec 32 := Scalar.addi v2 c20_i32_402
  let c32_i32_403 : BitVec 32 := 32#32
  let v607 : BitVec 32 := Scalar.remsi v606 c32_i32_403
  let c1_i32_406 : BitVec 32 := 1#32
  let v608 : BitVec 32 := Scalar.muli v607 c1_i32_406
  let v609 : BitVec 32 := Scalar.addi c0_i32_407 v608
  v609.toNat
def k0_dev52 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_411 : BitVec 32 := 21#32
  let v616 : BitVec 32 := Scalar.addi v2 c21_i32_411
  let c32_i32_412 : BitVec 32 := 32#32
  let v617 : BitVec 32 := Scalar.remsi v616 c32_i32_412
  let c1_i32_415 : BitVec 32 := 1#32
  let v618 : BitVec 32 := Scalar.muli v617 c1_i32_415
  let v619 : BitVec 32 := Scalar.addi c0_i32_416 v618
  v619.toNat
def k0_dev53 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_420 : BitVec 32 := 22#32
  let v626 : BitVec 32 := Scalar.addi v2 c22_i32_420
  let c32_i32_421 : BitVec 32 := 32#32
  let v627 : BitVec 32 := Scalar.remsi v626 c32_i32_421
  let c1_i32_424 : BitVec 32 := 1#32
  let v628 : BitVec 32 := Scalar.muli v627 c1_i32_424
  let v629 : BitVec 32 := Scalar.addi c0_i32_425 v628
  v629.toNat
def k0_dev54 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_429 : BitVec 32 := 23#32
  let v636 : BitVec 32 := Scalar.addi v2 c23_i32_429
  let c32_i32_430 : BitVec 32 := 32#32
  let v637 : BitVec 32 := Scalar.remsi v636 c32_i32_430
  let c1_i32_433 : BitVec 32 := 1#32
  let v638 : BitVec 32 := Scalar.muli v637 c1_i32_433
  let v639 : BitVec 32 := Scalar.addi c0_i32_434 v638
  v639.toNat
def k0_dev55 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_438 : BitVec 32 := 24#32
  let v646 : BitVec 32 := Scalar.addi v2 c24_i32_438
  let c32_i32_439 : BitVec 32 := 32#32
  let v647 : BitVec 32 := Scalar.remsi v646 c32_i32_439
  let c1_i32_442 : BitVec 32 := 1#32
  let v648 : BitVec 32 := Scalar.muli v647 c1_i32_442
  let v649 : BitVec 32 := Scalar.addi c0_i32_443 v648
  v649.toNat
def k0_dev56 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_447 : BitVec 32 := 25#32
  let v656 : BitVec 32 := Scalar.addi v2 c25_i32_447
  let c32_i32_448 : BitVec 32 := 32#32
  let v657 : BitVec 32 := Scalar.remsi v656 c32_i32_448
  let c1_i32_451 : BitVec 32 := 1#32
  let v658 : BitVec 32 := Scalar.muli v657 c1_i32_451
  let v659 : BitVec 32 := Scalar.addi c0_i32_452 v658
  v659.toNat
def k0_dev57 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_456 : BitVec 32 := 26#32
  let v666 : BitVec 32 := Scalar.addi v2 c26_i32_456
  let c32_i32_457 : BitVec 32 := 32#32
  let v667 : BitVec 32 := Scalar.remsi v666 c32_i32_457
  let c1_i32_460 : BitVec 32 := 1#32
  let v668 : BitVec 32 := Scalar.muli v667 c1_i32_460
  let v669 : BitVec 32 := Scalar.addi c0_i32_461 v668
  v669.toNat
def k0_dev58 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_465 : BitVec 32 := 27#32
  let v676 : BitVec 32 := Scalar.addi v2 c27_i32_465
  let c32_i32_466 : BitVec 32 := 32#32
  let v677 : BitVec 32 := Scalar.remsi v676 c32_i32_466
  let c1_i32_469 : BitVec 32 := 1#32
  let v678 : BitVec 32 := Scalar.muli v677 c1_i32_469
  let v679 : BitVec 32 := Scalar.addi c0_i32_470 v678
  v679.toNat
def k0_dev59 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_474 : BitVec 32 := 28#32
  let v686 : BitVec 32 := Scalar.addi v2 c28_i32_474
  let c32_i32_475 : BitVec 32 := 32#32
  let v687 : BitVec 32 := Scalar.remsi v686 c32_i32_475
  let c1_i32_478 : BitVec 32 := 1#32
  let v688 : BitVec 32 := Scalar.muli v687 c1_i32_478
  let v689 : BitVec 32 := Scalar.addi c0_i32_479 v688
  v689.toNat
def k0_dev60 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_483 : BitVec 32 := 29#32
  let v696 : BitVec 32 := Scalar.addi v2 c29_i32_483
  let c32_i32_484 : BitVec 32 := 32#32
  let v697 : BitVec 32 := Scalar.remsi v696 c32_i32_484
  let c1_i32_487 : BitVec 32 := 1#32
  let v698 : BitVec 32 := Scalar.muli v697 c1_i32_487
  let v699 : BitVec 32 := Scalar.addi c0_i32_488 v698
  v699.toNat
def k0_dev61 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_492 : BitVec 32 := 30#32
  let v706 : BitVec 32 := Scalar.addi v2 c30_i32_492
  let c32_i32_493 : BitVec 32 := 32#32
  let v707 : BitVec 32 := Scalar.remsi v706 c32_i32_493
  let c1_i32_496 : BitVec 32 := 1#32
  let v708 : BitVec 32 := Scalar.muli v707 c1_i32_496
  let v709 : BitVec 32 := Scalar.addi c0_i32_497 v708
  v709.toNat
def k0_dev62 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_501 : BitVec 32 := 31#32
  let v716 : BitVec 32 := Scalar.addi v2 c31_i32_501
  let c32_i32_502 : BitVec 32 := 32#32
  let v717 : BitVec 32 := Scalar.remsi v716 c32_i32_502
  let c1_i32_505 : BitVec 32 := 1#32
  let v718 : BitVec 32 := Scalar.muli v717 c1_i32_505
  let v719 : BitVec 32 := Scalar.addi c0_i32_506 v718
  v719.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_514 : BitVec 32 := 32#32
  let v730 : BitVec 32 := Scalar.muli v2 c32_i32_514
  let v731 : Index := Scalar.indexCast v730
  let c0_515 : Index := 0#32
  ![v731.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_514 : BitVec 32 := 32#32
  let v730 : BitVec 32 := Scalar.muli v2 c32_i32_514
  let v737 : Index := Scalar.indexCast v730
  let c0_519 : Index := 0#32
  ![v737.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_514 : BitVec 32 := 32#32
  let v730 : BitVec 32 := Scalar.muli v2 c32_i32_514
  let v739 : Index := Scalar.indexCast v730
  let c1_520 : Index := 1#32
  ![v739.toNat, 1]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_514 : BitVec 32 := 32#32
  let v730 : BitVec 32 := Scalar.muli v2 c32_i32_514
  let v990 : Index := Scalar.indexCast v730
  let c0_789 : Index := 0#32
  ![v990.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_514 : BitVec 32 := 32#32
  let v730 : BitVec 32 := Scalar.muli v2 c32_i32_514
  let c0_i32_796 : BitVec 32 := 0#32
  ![v730.toNat, 0]
def k0_dev63 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_790 : BitVec 32 := 1#32
  let v994 : BitVec 32 := Scalar.addi v2 c1_i32_790
  let c32_i32_791 : BitVec 32 := 32#32
  let v995 : BitVec 32 := Scalar.remsi v994 c32_i32_791
  let c1_i32_794 : BitVec 32 := 1#32
  let v996 : BitVec 32 := Scalar.muli v995 c1_i32_794
  let v997 : BitVec 32 := Scalar.addi c0_i32_795 v996
  v997.toNat
def k0_dev64 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_798 : BitVec 32 := 2#32
  let v1004 : BitVec 32 := Scalar.addi v2 c2_i32_798
  let c32_i32_799 : BitVec 32 := 32#32
  let v1005 : BitVec 32 := Scalar.remsi v1004 c32_i32_799
  let c1_i32_802 : BitVec 32 := 1#32
  let v1006 : BitVec 32 := Scalar.muli v1005 c1_i32_802
  let v1007 : BitVec 32 := Scalar.addi c0_i32_803 v1006
  v1007.toNat
def k0_dev65 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_806 : BitVec 32 := 3#32
  let v1014 : BitVec 32 := Scalar.addi v2 c3_i32_806
  let c32_i32_807 : BitVec 32 := 32#32
  let v1015 : BitVec 32 := Scalar.remsi v1014 c32_i32_807
  let c1_i32_810 : BitVec 32 := 1#32
  let v1016 : BitVec 32 := Scalar.muli v1015 c1_i32_810
  let v1017 : BitVec 32 := Scalar.addi c0_i32_811 v1016
  v1017.toNat
def k0_dev66 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_814 : BitVec 32 := 4#32
  let v1024 : BitVec 32 := Scalar.addi v2 c4_i32_814
  let c32_i32_815 : BitVec 32 := 32#32
  let v1025 : BitVec 32 := Scalar.remsi v1024 c32_i32_815
  let c1_i32_818 : BitVec 32 := 1#32
  let v1026 : BitVec 32 := Scalar.muli v1025 c1_i32_818
  let v1027 : BitVec 32 := Scalar.addi c0_i32_819 v1026
  v1027.toNat
def k0_dev67 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_822 : BitVec 32 := 5#32
  let v1034 : BitVec 32 := Scalar.addi v2 c5_i32_822
  let c32_i32_823 : BitVec 32 := 32#32
  let v1035 : BitVec 32 := Scalar.remsi v1034 c32_i32_823
  let c1_i32_826 : BitVec 32 := 1#32
  let v1036 : BitVec 32 := Scalar.muli v1035 c1_i32_826
  let v1037 : BitVec 32 := Scalar.addi c0_i32_827 v1036
  v1037.toNat
def k0_dev68 (d0 : Dev nD) : Nat :=
  let c0_i32_835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_830 : BitVec 32 := 6#32
  let v1044 : BitVec 32 := Scalar.addi v2 c6_i32_830
  let c32_i32_831 : BitVec 32 := 32#32
  let v1045 : BitVec 32 := Scalar.remsi v1044 c32_i32_831
  let c1_i32_834 : BitVec 32 := 1#32
  let v1046 : BitVec 32 := Scalar.muli v1045 c1_i32_834
  let v1047 : BitVec 32 := Scalar.addi c0_i32_835 v1046
  v1047.toNat
def k0_dev69 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_838 : BitVec 32 := 7#32
  let v1054 : BitVec 32 := Scalar.addi v2 c7_i32_838
  let c32_i32_839 : BitVec 32 := 32#32
  let v1055 : BitVec 32 := Scalar.remsi v1054 c32_i32_839
  let c1_i32_842 : BitVec 32 := 1#32
  let v1056 : BitVec 32 := Scalar.muli v1055 c1_i32_842
  let v1057 : BitVec 32 := Scalar.addi c0_i32_843 v1056
  v1057.toNat
def k0_dev70 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_846 : BitVec 32 := 8#32
  let v1064 : BitVec 32 := Scalar.addi v2 c8_i32_846
  let c32_i32_847 : BitVec 32 := 32#32
  let v1065 : BitVec 32 := Scalar.remsi v1064 c32_i32_847
  let c1_i32_850 : BitVec 32 := 1#32
  let v1066 : BitVec 32 := Scalar.muli v1065 c1_i32_850
  let v1067 : BitVec 32 := Scalar.addi c0_i32_851 v1066
  v1067.toNat
def k0_dev71 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_854 : BitVec 32 := 9#32
  let v1074 : BitVec 32 := Scalar.addi v2 c9_i32_854
  let c32_i32_855 : BitVec 32 := 32#32
  let v1075 : BitVec 32 := Scalar.remsi v1074 c32_i32_855
  let c1_i32_858 : BitVec 32 := 1#32
  let v1076 : BitVec 32 := Scalar.muli v1075 c1_i32_858
  let v1077 : BitVec 32 := Scalar.addi c0_i32_859 v1076
  v1077.toNat
def k0_dev72 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_862 : BitVec 32 := 10#32
  let v1084 : BitVec 32 := Scalar.addi v2 c10_i32_862
  let c32_i32_863 : BitVec 32 := 32#32
  let v1085 : BitVec 32 := Scalar.remsi v1084 c32_i32_863
  let c1_i32_866 : BitVec 32 := 1#32
  let v1086 : BitVec 32 := Scalar.muli v1085 c1_i32_866
  let v1087 : BitVec 32 := Scalar.addi c0_i32_867 v1086
  v1087.toNat
def k0_dev73 (d0 : Dev nD) : Nat :=
  let c0_i32_875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_870 : BitVec 32 := 11#32
  let v1094 : BitVec 32 := Scalar.addi v2 c11_i32_870
  let c32_i32_871 : BitVec 32 := 32#32
  let v1095 : BitVec 32 := Scalar.remsi v1094 c32_i32_871
  let c1_i32_874 : BitVec 32 := 1#32
  let v1096 : BitVec 32 := Scalar.muli v1095 c1_i32_874
  let v1097 : BitVec 32 := Scalar.addi c0_i32_875 v1096
  v1097.toNat
def k0_dev74 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_878 : BitVec 32 := 12#32
  let v1104 : BitVec 32 := Scalar.addi v2 c12_i32_878
  let c32_i32_879 : BitVec 32 := 32#32
  let v1105 : BitVec 32 := Scalar.remsi v1104 c32_i32_879
  let c1_i32_882 : BitVec 32 := 1#32
  let v1106 : BitVec 32 := Scalar.muli v1105 c1_i32_882
  let v1107 : BitVec 32 := Scalar.addi c0_i32_883 v1106
  v1107.toNat
def k0_dev75 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_886 : BitVec 32 := 13#32
  let v1114 : BitVec 32 := Scalar.addi v2 c13_i32_886
  let c32_i32_887 : BitVec 32 := 32#32
  let v1115 : BitVec 32 := Scalar.remsi v1114 c32_i32_887
  let c1_i32_890 : BitVec 32 := 1#32
  let v1116 : BitVec 32 := Scalar.muli v1115 c1_i32_890
  let v1117 : BitVec 32 := Scalar.addi c0_i32_891 v1116
  v1117.toNat
def k0_dev76 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_894 : BitVec 32 := 14#32
  let v1124 : BitVec 32 := Scalar.addi v2 c14_i32_894
  let c32_i32_895 : BitVec 32 := 32#32
  let v1125 : BitVec 32 := Scalar.remsi v1124 c32_i32_895
  let c1_i32_898 : BitVec 32 := 1#32
  let v1126 : BitVec 32 := Scalar.muli v1125 c1_i32_898
  let v1127 : BitVec 32 := Scalar.addi c0_i32_899 v1126
  v1127.toNat
def k0_dev77 (d0 : Dev nD) : Nat :=
  let c0_i32_907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_902 : BitVec 32 := 15#32
  let v1134 : BitVec 32 := Scalar.addi v2 c15_i32_902
  let c32_i32_903 : BitVec 32 := 32#32
  let v1135 : BitVec 32 := Scalar.remsi v1134 c32_i32_903
  let c1_i32_906 : BitVec 32 := 1#32
  let v1136 : BitVec 32 := Scalar.muli v1135 c1_i32_906
  let v1137 : BitVec 32 := Scalar.addi c0_i32_907 v1136
  v1137.toNat
def k0_dev78 (d0 : Dev nD) : Nat :=
  let c0_i32_915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_910 : BitVec 32 := 16#32
  let v1144 : BitVec 32 := Scalar.addi v2 c16_i32_910
  let c32_i32_911 : BitVec 32 := 32#32
  let v1145 : BitVec 32 := Scalar.remsi v1144 c32_i32_911
  let c1_i32_914 : BitVec 32 := 1#32
  let v1146 : BitVec 32 := Scalar.muli v1145 c1_i32_914
  let v1147 : BitVec 32 := Scalar.addi c0_i32_915 v1146
  v1147.toNat
def k0_dev79 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_918 : BitVec 32 := 17#32
  let v1154 : BitVec 32 := Scalar.addi v2 c17_i32_918
  let c32_i32_919 : BitVec 32 := 32#32
  let v1155 : BitVec 32 := Scalar.remsi v1154 c32_i32_919
  let c1_i32_922 : BitVec 32 := 1#32
  let v1156 : BitVec 32 := Scalar.muli v1155 c1_i32_922
  let v1157 : BitVec 32 := Scalar.addi c0_i32_923 v1156
  v1157.toNat
def k0_dev80 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_926 : BitVec 32 := 18#32
  let v1164 : BitVec 32 := Scalar.addi v2 c18_i32_926
  let c32_i32_927 : BitVec 32 := 32#32
  let v1165 : BitVec 32 := Scalar.remsi v1164 c32_i32_927
  let c1_i32_930 : BitVec 32 := 1#32
  let v1166 : BitVec 32 := Scalar.muli v1165 c1_i32_930
  let v1167 : BitVec 32 := Scalar.addi c0_i32_931 v1166
  v1167.toNat
def k0_dev81 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_934 : BitVec 32 := 19#32
  let v1174 : BitVec 32 := Scalar.addi v2 c19_i32_934
  let c32_i32_935 : BitVec 32 := 32#32
  let v1175 : BitVec 32 := Scalar.remsi v1174 c32_i32_935
  let c1_i32_938 : BitVec 32 := 1#32
  let v1176 : BitVec 32 := Scalar.muli v1175 c1_i32_938
  let v1177 : BitVec 32 := Scalar.addi c0_i32_939 v1176
  v1177.toNat
def k0_dev82 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_942 : BitVec 32 := 20#32
  let v1184 : BitVec 32 := Scalar.addi v2 c20_i32_942
  let c32_i32_943 : BitVec 32 := 32#32
  let v1185 : BitVec 32 := Scalar.remsi v1184 c32_i32_943
  let c1_i32_946 : BitVec 32 := 1#32
  let v1186 : BitVec 32 := Scalar.muli v1185 c1_i32_946
  let v1187 : BitVec 32 := Scalar.addi c0_i32_947 v1186
  v1187.toNat
def k0_dev83 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_950 : BitVec 32 := 21#32
  let v1194 : BitVec 32 := Scalar.addi v2 c21_i32_950
  let c32_i32_951 : BitVec 32 := 32#32
  let v1195 : BitVec 32 := Scalar.remsi v1194 c32_i32_951
  let c1_i32_954 : BitVec 32 := 1#32
  let v1196 : BitVec 32 := Scalar.muli v1195 c1_i32_954
  let v1197 : BitVec 32 := Scalar.addi c0_i32_955 v1196
  v1197.toNat
def k0_dev84 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_958 : BitVec 32 := 22#32
  let v1204 : BitVec 32 := Scalar.addi v2 c22_i32_958
  let c32_i32_959 : BitVec 32 := 32#32
  let v1205 : BitVec 32 := Scalar.remsi v1204 c32_i32_959
  let c1_i32_962 : BitVec 32 := 1#32
  let v1206 : BitVec 32 := Scalar.muli v1205 c1_i32_962
  let v1207 : BitVec 32 := Scalar.addi c0_i32_963 v1206
  v1207.toNat
def k0_dev85 (d0 : Dev nD) : Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_966 : BitVec 32 := 23#32
  let v1214 : BitVec 32 := Scalar.addi v2 c23_i32_966
  let c32_i32_967 : BitVec 32 := 32#32
  let v1215 : BitVec 32 := Scalar.remsi v1214 c32_i32_967
  let c1_i32_970 : BitVec 32 := 1#32
  let v1216 : BitVec 32 := Scalar.muli v1215 c1_i32_970
  let v1217 : BitVec 32 := Scalar.addi c0_i32_971 v1216
  v1217.toNat
def k0_dev86 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_974 : BitVec 32 := 24#32
  let v1224 : BitVec 32 := Scalar.addi v2 c24_i32_974
  let c32_i32_975 : BitVec 32 := 32#32
  let v1225 : BitVec 32 := Scalar.remsi v1224 c32_i32_975
  let c1_i32_978 : BitVec 32 := 1#32
  let v1226 : BitVec 32 := Scalar.muli v1225 c1_i32_978
  let v1227 : BitVec 32 := Scalar.addi c0_i32_979 v1226
  v1227.toNat
def k0_dev87 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_982 : BitVec 32 := 25#32
  let v1234 : BitVec 32 := Scalar.addi v2 c25_i32_982
  let c32_i32_983 : BitVec 32 := 32#32
  let v1235 : BitVec 32 := Scalar.remsi v1234 c32_i32_983
  let c1_i32_986 : BitVec 32 := 1#32
  let v1236 : BitVec 32 := Scalar.muli v1235 c1_i32_986
  let v1237 : BitVec 32 := Scalar.addi c0_i32_987 v1236
  v1237.toNat
def k0_dev88 (d0 : Dev nD) : Nat :=
  let c0_i32_995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_990 : BitVec 32 := 26#32
  let v1244 : BitVec 32 := Scalar.addi v2 c26_i32_990
  let c32_i32_991 : BitVec 32 := 32#32
  let v1245 : BitVec 32 := Scalar.remsi v1244 c32_i32_991
  let c1_i32_994 : BitVec 32 := 1#32
  let v1246 : BitVec 32 := Scalar.muli v1245 c1_i32_994
  let v1247 : BitVec 32 := Scalar.addi c0_i32_995 v1246
  v1247.toNat
def k0_dev89 (d0 : Dev nD) : Nat :=
  let c0_i32_1003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_998 : BitVec 32 := 27#32
  let v1254 : BitVec 32 := Scalar.addi v2 c27_i32_998
  let c32_i32_999 : BitVec 32 := 32#32
  let v1255 : BitVec 32 := Scalar.remsi v1254 c32_i32_999
  let c1_i32_1002 : BitVec 32 := 1#32
  let v1256 : BitVec 32 := Scalar.muli v1255 c1_i32_1002
  let v1257 : BitVec 32 := Scalar.addi c0_i32_1003 v1256
  v1257.toNat
def k0_dev90 (d0 : Dev nD) : Nat :=
  let c0_i32_1011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1006 : BitVec 32 := 28#32
  let v1264 : BitVec 32 := Scalar.addi v2 c28_i32_1006
  let c32_i32_1007 : BitVec 32 := 32#32
  let v1265 : BitVec 32 := Scalar.remsi v1264 c32_i32_1007
  let c1_i32_1010 : BitVec 32 := 1#32
  let v1266 : BitVec 32 := Scalar.muli v1265 c1_i32_1010
  let v1267 : BitVec 32 := Scalar.addi c0_i32_1011 v1266
  v1267.toNat
def k0_dev91 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1014 : BitVec 32 := 29#32
  let v1274 : BitVec 32 := Scalar.addi v2 c29_i32_1014
  let c32_i32_1015 : BitVec 32 := 32#32
  let v1275 : BitVec 32 := Scalar.remsi v1274 c32_i32_1015
  let c1_i32_1018 : BitVec 32 := 1#32
  let v1276 : BitVec 32 := Scalar.muli v1275 c1_i32_1018
  let v1277 : BitVec 32 := Scalar.addi c0_i32_1019 v1276
  v1277.toNat
def k0_dev92 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1022 : BitVec 32 := 30#32
  let v1284 : BitVec 32 := Scalar.addi v2 c30_i32_1022
  let c32_i32_1023 : BitVec 32 := 32#32
  let v1285 : BitVec 32 := Scalar.remsi v1284 c32_i32_1023
  let c1_i32_1026 : BitVec 32 := 1#32
  let v1286 : BitVec 32 := Scalar.muli v1285 c1_i32_1026
  let v1287 : BitVec 32 := Scalar.addi c0_i32_1027 v1286
  v1287.toNat
def k0_dev93 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1030 : BitVec 32 := 31#32
  let v1294 : BitVec 32 := Scalar.addi v2 c31_i32_1030
  let c32_i32_1031 : BitVec 32 := 32#32
  let v1295 : BitVec 32 := Scalar.remsi v1294 c32_i32_1031
  let c1_i32_1034 : BitVec 32 := 1#32
  let v1296 : BitVec 32 := Scalar.muli v1295 c1_i32_1034
  let v1297 : BitVec 32 := Scalar.addi c0_i32_1035 v1296
  v1297.toNat
def k0_off6 (d0 : Dev nD) (c1_i32_1038 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1304 : BitVec 32 := Scalar.subi v2 c1_i32_1038
  let c32_i32_1039 : BitVec 32 := 32#32
  let v1305 : BitVec 32 := Scalar.addi v1304 c32_i32_1039
  let c32_i32_1040 : BitVec 32 := 32#32
  let v1306 : BitVec 32 := Scalar.remsi v1305 c32_i32_1040
  let c32_i32_1041 : BitVec 32 := 32#32
  let v1307 : BitVec 32 := Scalar.muli v1306 c32_i32_1041
  let c0_i32_1046 : BitVec 32 := 0#32
  ![v1307.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x1 : Shape := ⟨2, ![1024, 1]⟩
abbrev S128x256x512 : Shape := ⟨3, ![128, 256, 512]⟩
abbrev S256x512 : Shape := ⟨2, ![256, 512]⟩
abbrev S1024x128 : Shape := ⟨2, ![1024, 128]⟩
abbrev S_ : Shape := ⟨0, ![]⟩
abbrev S1024 : Shape := ⟨1, ![1024]⟩
abbrev S1024x512 : Shape := ⟨2, ![1024, 512]⟩
abbrev S128 : Shape := ⟨1, ![128]⟩
abbrev S1x128 : Shape := ⟨2, ![1, 128]⟩
abbrev S128x512x1024 : Shape := ⟨3, ![128, 512, 1024]⟩
abbrev S128x1024x512 : Shape := ⟨3, ![128, 1024, 512]⟩
abbrev S128x1024 : Shape := ⟨2, ![128, 1024]⟩
abbrev S128x1024x1 : Shape := ⟨3, ![128, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x1, .i32⟩
  | .hbm, ⟨3, _⟩ => ⟨S128x256x512, .f32⟩
  | .hbm, ⟨4, _⟩ => ⟨S256x512, .f32⟩
  | .hbm, ⟨5, _⟩ => ⟨S1024x128, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x128, .f32⟩
  | .hbm, ⟨16, _⟩ => ⟨S1024x128, .f32⟩
  | .hbm, ⟨17, _⟩ => ⟨S1024x512, .f32⟩
  | .hbm, ⟨18, _⟩ => ⟨S128, .i32⟩
  | .hbm, ⟨19, _⟩ => ⟨S1x128, .i32⟩
  | .hbm, ⟨20, _⟩ => ⟨S1024x128, .i32⟩
  | .hbm, ⟨21, _⟩ => ⟨S1024x128, .i32⟩
  | .hbm, ⟨22, _⟩ => ⟨S1024x128, .i1⟩
  | .hbm, ⟨23, _⟩ => ⟨S_, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S128x512x1024, .f32⟩
  | .hbm, ⟨28, _⟩ => ⟨S128x1024x512, .f32⟩
  | .hbm, ⟨29, _⟩ => ⟨S128x1024, .f32⟩
  | .hbm, ⟨30, _⟩ => ⟨S128x1024x1, .f32⟩
  | .hbm, ⟨31, _⟩ => ⟨S128x1024x512, .f32⟩
  | .hbm, ⟨32, _⟩ => ⟨S128x1024x512, .f32⟩
  | .hbm, ⟨33, _⟩ => ⟨S_, .f32⟩
  | .hbm, ⟨34, _⟩ => ⟨S1024x512, .f32⟩
  | .hbm, ⟨35, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.Shape.lean ====
/-
# The kernel's text, with its runs of like steps written as loops

The printed body names each of its 31 barrier signals, 31 sends of a token block, 31 waits for one, 31 sends of
the finished rows, 31 waits for them and 62 waits for its own sends one by one. Here the same program is written
with each run as one list of steps indexed by `j : Fin 31` (the peer at offset `j + 1`), so that one lemma about a
step serves the whole run. That the two programs are the same one is by unfolding.
-/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.ShloMosaic.TcCoe
open Idealize.SL.Sem

variable {F : FTy → Type} [FloatOps F]

/-- The kernel's programs. -/
abbrev P (F : FTy → Type) [FloatOps F] (α : Type) := Prog (TpuEff nD τ sig (Elt F) Λ₀ .tc) α

/-! ## The memrefs -/

abbrev xM : Memref sig .tc .vmem S1024x256 .f32 := Memref.whole cc0_stg0_0
abbrev rwM : Memref sig .tc .vmem S256x128 .f32 := Memref.whole cc0_stg1_0
abbrev ixM : Memref sig .tc .vmem S1024x1 .i32 := Memref.whole cc0_stg2_0
abbrev ewM : Memref sig .tc .vmem S4x256x512 .f32 := Memref.whole cc0_stg3_0
abbrev swM : Memref sig .tc .vmem S256x512 .f32 := Memref.whole cc0_stg4_0
abbrev outM : Memref sig .tc .vmem S1024x512 .f32 := Memref.whole cc0_stg5_0
/-- The blocks to send: row `8 k + s` is for the peer at offset `k`. -/
abbrev sbM : Memref sig .tc .vmem S256x512 .bf16 := Memref.whole cc0_scratch0
/-- The blocks received: row `8 k + s` is from the peer `k` before. -/
abbrev rbM : Memref sig .tc .vmem S256x512 .bf16 := Memref.whole cc0_scratch1
/-- The finished rows of all devices. -/
abbrev bcM : Memref sig .tc .vmem S1024x512 .bf16 := Memref.whole cc0_scratch2
/-- Each token's owner and rank. -/
abbrev mtM : Memref sig .tc .vmem S1024x2 .f32 := Memref.whole cc0_scratch3

theorem blk_inb (b : Fin 32) : ∀ a, (![8 * b.val, 0] : Fin 2 → Nat) a + S8x512.size a ≤ S256x512.size a := by
  revert b; decide
theorem blk_words (b : Fin 32) : (Rect.unit (s := S256x512) ![8 * b.val, 0] S8x512.size (blk_inb b)).WholeWords (EltTy.packing .bf16) := by
  revert b; decide +kernel
theorem sem_inb (j : Fin 31) : ∀ a, (![j.val] : Fin 1 → Nat) a + S1.size a ≤ S31.size a := by revert j; decide

/-- Block `b` of the blocks to send, and of the blocks received. -/
abbrev sbBlk (b : Fin 32) : Memref sig .tc .vmem S8x512 .bf16 := sbM.slice (Rect.unit (s := S256x512) ![8 * b.val, 0] S8x512.size (blk_inb b)) (fun _ => rfl)
abbrev rbBlk (b : Fin 32) : Memref sig .tc .vmem S8x512 .bf16 := rbM.slice (Rect.unit (s := S256x512) ![8 * b.val, 0] S8x512.size (blk_inb b)) (fun _ => rfl)
/-- Device `c`'s own rows of the finished rows, as its sends name them; -/
abbrev bcOwn (c : Dev nD) : Memref sig .tc .vmem S32x512 .bf16 := bcM.slice (Rect.unit (s := S1024x512) (k0_off5 c) S32x512.size (k0_off5_inb c)) (fun _ => rfl)
/-- the rows its `j`-th wait names. -/
abbrev bcSrc (c : Dev nD) (j : Fin 31) : Memref sig .tc .vmem S32x512 .bf16 :=
  bcM.slice (Rect.unit (s := S1024x512) (k0_off6 c (BitVec.ofNat 32 (1 + j.val))) S32x512.size (k0_off6_inb c j)) (fun _ => rfl)

/-- The four arrays of 31 transfer semaphores: blocks out, blocks in, rows out, rows in. -/
abbrev arr : Fin 4 → DmaSems sig S31 := fun | 0 => cc0_scratch4 | 1 => cc0_scratch5 | 2 => cc0_scratch6 | 3 => cc0_scratch7
abbrev dsm (q : Fin 4) (j : Fin 31) : DmaSem sig := (((arr q).slice (Rect.unit (s := S31) ![j.val] S1.size (sem_inb j))).squeeze S_ squeezes_S1_S_).sem
/-- The barrier semaphore. -/
abbrev barS : Sem sig := (SemArray.scalar (sig.barrier 0 rfl) : Sems sig S_).sem

/-! ## The devices the steps address, as printed -/

def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]
def blkDev (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩]
def rowDev (c : Dev nD) : Fin 31 → Dev nD :=
  ![⟨k0_dev63 c, k0_dev63_lt c⟩, ⟨k0_dev64 c, k0_dev64_lt c⟩, ⟨k0_dev65 c, k0_dev65_lt c⟩, ⟨k0_dev66 c, k0_dev66_lt c⟩, ⟨k0_dev67 c, k0_dev67_lt c⟩, ⟨k0_dev68 c, k0_dev68_lt c⟩, ⟨k0_dev69 c, k0_dev69_lt c⟩, ⟨k0_dev70 c, k0_dev70_lt c⟩, ⟨k0_dev71 c, k0_dev71_lt c⟩, ⟨k0_dev72 c, k0_dev72_lt c⟩, ⟨k0_dev73 c, k0_dev73_lt c⟩, ⟨k0_dev74 c, k0_dev74_lt c⟩, ⟨k0_dev75 c, k0_dev75_lt c⟩, ⟨k0_dev76 c, k0_dev76_lt c⟩, ⟨k0_dev77 c, k0_dev77_lt c⟩, ⟨k0_dev78 c, k0_dev78_lt c⟩, ⟨k0_dev79 c, k0_dev79_lt c⟩, ⟨k0_dev80 c, k0_dev80_lt c⟩, ⟨k0_dev81 c, k0_dev81_lt c⟩, ⟨k0_dev82 c, k0_dev82_lt c⟩, ⟨k0_dev83 c, k0_dev83_lt c⟩, ⟨k0_dev84 c, k0_dev84_lt c⟩, ⟨k0_dev85 c, k0_dev85_lt c⟩, ⟨k0_dev86 c, k0_dev86_lt c⟩, ⟨k0_dev87 c, k0_dev87_lt c⟩, ⟨k0_dev88 c, k0_dev88_lt c⟩, ⟨k0_dev89 c, k0_dev89_lt c⟩, ⟨k0_dev90 c, k0_dev90_lt c⟩, ⟨k0_dev91 c, k0_dev91_lt c⟩, ⟨k0_dev92 c, k0_dev92_lt c⟩, ⟨k0_dev93 c, k0_dev93_lt c⟩]

/-! ## Runs of steps -/

/-- The steps `s 0, …, s 30` from the last `n` on. -/
def steps (s : Fin 31 → P F PUnit) : (n : ℕ) → n ≤ 31 → P F PUnit
  | 0, _ => pure ⟨⟩
  | n + 1, h => s ⟨31 - (n + 1), by omega⟩ >>= fun _ => steps s n (by omega)

def sigStep (c : Dev nD) (j : Fin 31) : P F PUnit := semSignalWord (sigDev c j) barS 1#32
def blkStep (c : Dev nD) (j : Fin 31) : P F PUnit :=
  Prog.lift (.enqueueDma (sbBlk j.succ) (.remote (Dev.tc (blkDev c j)) (rbBlk j.succ) (.dma (dsm 0 j))) (.dma (dsm 1 j))
    ((Memref.isWhole_whole cc0_scratch0).wordExact_slice rfl _ (blk_words j.succ)) ((Memref.isWhole_whole cc0_scratch1).wordExact_slice rfl _ (blk_words j.succ)) ⟨⟨rfl, Or.inl rfl⟩, trivial⟩)
def blkWait (j : Fin 31) : P F PUnit :=
  Prog.lift (.waitDma2 (dsm 1 j) (sbBlk j.succ) (rbBlk j.succ)
    ((Memref.isWhole_whole cc0_scratch0).wordExact_slice rfl _ (blk_words j.succ)) ((Memref.isWhole_whole cc0_scratch1).wordExact_slice rfl _ (blk_words j.succ)))
def rowStep (c : Dev nD) (j : Fin 31) : P F PUnit :=
  Prog.lift (.enqueueDma (bcOwn c) (.remote (Dev.tc (rowDev c j)) (bcOwn c) (.dma (dsm 2 j))) (.dma (dsm 3 j))
    ((Memref.isWhole_whole cc0_scratch2).wordExact_slice rfl _ (k0_off5_wordsbf16 c)) ((Memref.isWhole_whole cc0_scratch2).wordExact_slice rfl _ (k0_off5_wordsbf16 c)) ⟨⟨rfl, Or.inl rfl⟩, trivial⟩)
def rowWait (c : Dev nD) (j : Fin 31) : P F PUnit :=
  Prog.lift (.waitDma2 (dsm 3 j) (bcOwn c) (bcSrc c j)
    ((Memref.isWhole_whole cc0_scratch2).wordExact_slice rfl _ (k0_off5_wordsbf16 c)) ((Memref.isWhole_whole cc0_scratch2).wordExact_slice rfl _ (k0_off6_wordsbf16 c j)))
def outWait (c : Dev nD) (j : Fin 31) : P F PUnit := do
  Prog.lift (.waitDma2 (dsm 0 j) (rbBlk j.succ) (sbBlk j.succ)
    ((Memref.isWhole_whole cc0_scratch1).wordExact_slice rfl _ (blk_words j.succ)) ((Memref.isWhole_whole cc0_scratch0).wordExact_slice rfl _ (blk_words j.succ)))
  Prog.lift (.waitDma2 (dsm 2 j) (bcOwn c) (bcOwn c)
    ((Memref.isWhole_whole cc0_scratch2).wordExact_slice rfl _ (k0_off5_wordsbf16 c)) ((Memref.isWhole_whole cc0_scratch2).wordExact_slice rfl _ (k0_off5_wordsbf16 c)))

/-! ## The values between the memory operations -/

/-- The device's number as the kernel computes it. -/
def word (c : Dev nD) : BitVec 32 := Scalar.remsi (Scalar.divsi (Dev.word c) 1#32) 32#32
/-- Each token's owner, the device that holds its expert: an integer; -/
def ownI (ix : Vec F S1024x1 .i32) : IVec S1024x1 32 := k0_pay7 (k0_pay2 ix) 4#32 (k0_pay4 ix) (k0_pay5 ix) k0_pay6
/-- as a float, what the first column of the tokens' table holds. -/
def ownF (ix : Vec F S1024x1 .i32) : FVec F S1024x1 .f32 := k0_pay12 (F := F) (ownI ix)
/-- Each token's rank among the tokens of its chunk with its owner, -/
def rankF (ix : Vec F S1024x1 .i32) : FVec F S1024x1 .f32 :=
  k0_pay11 (F := F) (ownI ix) (iota .tc S1024x1024 32 [1] iota_S1024x1024_d1_w32) k0_pay8 k0_pay9 32#32 k0_pay10 0#32
/-- and as the second column of the tokens' table holds it. -/
def rankF' (ix : Vec F S1024x1 .i32) : FVec F S1024x1 .f32 :=
  k0_pay13 (F := F) (ownI ix) (iota .tc S1024x1024 32 [1] iota_S1024x1024_d1_w32) k0_pay8 k0_pay9 32#32 k0_pay10 0#32
/-- Which token has the slot's rank and the device as its owner; -/
def slotSel (c : Dev nD) (ix : Vec F S1024x1 .i32) : FVec F S256x1024 .f32 := k0_pay14 (word c) (ownI ix) (rankF ix)
/-- which chunk the row's block is for. -/
def rowChunk (c : Dev nD) : FVec F S256x32 .f32 := k0_pay17 (F := F) (word c) (iota .tc S256x32 32 [0] iota_S256x32_d0_w32) 8#32 k0_pay15 k0_pay16 0#32
/-- The probability each token's expert gets. -/
def probSel (x : Vec F S1024x256 .f32) (rw : Vec F S256x128 .f32) (ix : Vec F S1024x1 .i32) : FVec F S1024x1 .f32 := k0_pay3 x rw ix
/-- The blocks device `c` sends. -/
def sendV (c : Dev nD) (x : Vec F S1024x256 .f32) (rw : Vec F S256x128 .f32) (ix : Vec F S1024x1 .i32)
    (w0 w1 w2 w3 : Vec F S1x256x512 .f32) : FVec F S256x512 .bf16 :=
  k0_pay28 (word c) (k0_pay22 (probSel x rw ix) (slotSel c ix) (rowChunk c) k0_pay18 k0_pay19 k0_pay20)
    (k0_pay23 (k0_pay2 ix) (slotSel c ix) (rowChunk c) k0_pay18 k0_pay19 k0_pay20)
    (k0_pay24 (k0_pay1 x) (slotSel c ix) (rowChunk c) k0_pay18 k0_pay19 k0_pay20)
    (k0_pay25 (word c) (k0_pay1 x) (k0_pay2 ix) (probSel x rw ix) (slotSel c ix) (rowChunk c) k0_pay18 k0_pay19 k0_pay20 w0)
    (k0_pay26 (k0_pay1 x) (slotSel c ix) (rowChunk c) k0_pay18 k0_pay19 k0_pay20 w1)
    (k0_pay27 (word c) (k0_pay2 ix) (slotSel c ix) (rowChunk c) k0_pay18 k0_pay19 k0_pay20) w2 w3
/-- The matrix that picks, for each of the device's 32 tokens, the row received for it. -/
def pick (c : Dev nD) (o r : Vec F S32x1 .f32) : FVec F S32x256 .f32 :=
  k0_pay34 (word c) o r k0_pay31 (Scalar.select (Scalar.cmpi .eq 8#32 0#32) 1#32 8#32) k0_pay32 k0_pay33 0#32
/-- The device's finished rows. -/
def doneV (c : Dev nD) (xc : Vec F S32x256 .f32) (sw : Vec F S256x512 .f32) (o r : Vec F S32x1 .f32) (rb : Vec F S256x512 .bf16) : FVec F S32x512 .bf16 :=
  k0_pay35 (k0_pay30 xc sw) (pick c o r) rb

/-! ## The body -/

abbrev rX : Rect S1024x256 := Rect.unit (s := S1024x256) ![0, 0] S1024x256.size inb_S1024x256_S1024x256_0_0
abbrev rRw : Rect S256x128 := Rect.unit (s := S256x128) ![0, 0] S256x128.size inb_S256x128_S256x128_0_0
abbrev rIx : Rect S1024x1 := Rect.unit (s := S1024x1) ![0, 0] S1024x1.size inb_S1024x1_S1024x1_0_0
abbrev rM0 : Rect S1024x2 := Rect.unit (s := S1024x2) ![0, 0] S1024x1.size inb_S1024x2_S1024x1_0_0
abbrev rM1 : Rect S1024x2 := Rect.unit (s := S1024x2) ![0, 1] S1024x1.size inb_S1024x2_S1024x1_0_1
abbrev rW0 : Rect S4x256x512 := Rect.unit (s := S4x256x512) ![0, 0, 0] S1x256x512.size inb_S4x256x512_S1x256x512_0_0_0
abbrev rW1 : Rect S4x256x512 := Rect.unit (s := S4x256x512) ![1, 0, 0] S1x256x512.size inb_S4x256x512_S1x256x512_1_0_0
abbrev rW2 : Rect S4x256x512 := Rect.unit (s := S4x256x512) ![2, 0, 0] S1x256x512.size inb_S4x256x512_S1x256x512_2_0_0
abbrev rW3 : Rect S4x256x512 := Rect.unit (s := S4x256x512) ![3, 0, 0] S1x256x512.size inb_S4x256x512_S1x256x512_3_0_0
abbrev rSb : Rect S256x512 := Rect.unit (s := S256x512) ![0, 0] S256x512.size inb_S256x512_S256x512_0_0
abbrev rB0 : Rect S256x512 := Rect.unit (s := S256x512) ![0, 0] S8x512.size inb_S256x512_S8x512_0_0
abbrev rXc (c : Dev nD) : Rect S1024x256 := Rect.unit (s := S1024x256) (k0_off1 c) S32x256.size (k0_off1_inb c)
abbrev rMo (c : Dev nD) : Rect S1024x2 := Rect.unit (s := S1024x2) (k0_off2 c) S32x1.size (k0_off2_inb c)
abbrev rMr (c : Dev nD) : Rect S1024x2 := Rect.unit (s := S1024x2) (k0_off3 c) S32x1.size (k0_off3_inb c)
abbrev rBc (c : Dev nD) : Rect S1024x512 := Rect.unit (s := S1024x512) (k0_off4 c) S32x512.size (k0_off4_inb c)
abbrev rOut : Rect S1024x512 := Rect.unit (s := S1024x512) ![0, 0] S1024x512.size inb_S1024x512_S1024x512_0_0

/-- The body: the barrier's signals; the tokens' table and the blocks to send computed; the barrier; the blocks
    exchanged; the device's own rows finished; the rows exchanged; the result; the device's own sends awaited. -/
def body : P F PUnit := do
  let c : Dev nD ← Prog.lift .deviceId
  steps (sigStep c) 31 (le_refl 31)
  let x : Vec F S1024x256 .f32 ← Prog.lift (.load xM rX.toLoadRect (View.loadsAt_vmem h_S1024x256))
  let rw : Vec F S256x128 .f32 ← Prog.lift (.load rwM rRw.toLoadRect (View.loadsAt_vmem h_S256x128))
  let ix : Vec F S1024x1 .i32 ← Prog.lift (.load ixM rIx.toLoadRect (View.loadsAt_vmem h_S1024x1))
  let _ : Vec F S1024x1 .f32 ← Prog.lift (.load mtM rM0.toLoadRect (View.loadsAt_vmem h_S1024x1))
  Prog.lift (.store mtM rM0 (ownF ix) Finset.univ (View.stores_vmem_bits_univ h_S1024x1 rfl) (.inl rfl))
  let _ : Vec F S1024x1 .f32 ← Prog.lift (.load mtM rM1.toLoadRect (View.loadsAt_vmem h_S1024x1))
  Prog.lift (.store mtM rM1 (rankF' ix) Finset.univ (View.stores_vmem_bits_univ h_S1024x1 rfl) (.inl rfl))
  let w0 : Vec F S1x256x512 .f32 ← Prog.lift (.load ewM rW0.toLoadRect (View.loadsAt_vmem h_S1x256x512))
  let w1 : Vec F S1x256x512 .f32 ← Prog.lift (.load ewM rW1.toLoadRect (View.loadsAt_vmem h_S1x256x512))
  let w2 : Vec F S1x256x512 .f32 ← Prog.lift (.load ewM rW2.toLoadRect (View.loadsAt_vmem h_S1x256x512))
  let w3 : Vec F S1x256x512 .f32 ← Prog.lift (.load ewM rW3.toLoadRect (View.loadsAt_vmem h_S1x256x512))
  let _ : Vec F S256x512 .bf16 ← Prog.lift (.load sbM rSb.toLoadRect (View.loadsAt_vmem h_S256x512))
  Prog.lift (.store sbM rSb (sendV c x rw ix w0 w1 w2 w3) Finset.univ
    (View.stores_vmem h_S256x512 ((Memref.isWhole_whole cc0_scratch0).storeExact_slice rfl _ packedbf16_S256x512_S256x512_0_0) (fun _ => rfl)) (.inl rfl))
  semWaitWord barS 31#32
  steps (blkStep c) 31 (le_refl 31)
  let s0 : Vec F S8x512 .bf16 ← Prog.lift (.load sbM rB0.toLoadRect (View.loadsAt_vmem h_S8x512))
  let _ : Vec F S8x512 .bf16 ← Prog.lift (.load rbM rB0.toLoadRect (View.loadsAt_vmem h_S8x512))
  Prog.lift (.store rbM rB0 (k0_pay29 s0) Finset.univ
    (View.stores_vmem h_S8x512 ((Memref.isWhole_whole cc0_scratch1).storeExact_slice rfl _ packedbf16_S256x512_S8x512_0_0) (fun _ => rfl)) (.inl rfl))
  let xc : Vec F S32x256 .f32 ← Prog.lift (.load xM (rXc c).toLoadRect (View.loadsAt_vmem h_S32x256))
  let sw : Vec F S256x512 .f32 ← Prog.lift (.load swM rSb.toLoadRect (View.loadsAt_vmem h_S256x512))
  let o : Vec F S32x1 .f32 ← Prog.lift (.load mtM (rMo c).toLoadRect (View.loadsAt_vmem h_S32x1))
  let r : Vec F S32x1 .f32 ← Prog.lift (.load mtM (rMr c).toLoadRect (View.loadsAt_vmem h_S32x1))
  steps blkWait 31 (le_refl 31)
  let rb : Vec F S256x512 .bf16 ← Prog.lift (.load rbM rSb.toLoadRect (View.loadsAt_vmem h_S256x512))
  let _ : Vec F S32x512 .bf16 ← Prog.lift (.load bcM (rBc c).toLoadRect (View.loadsAt_vmem h_S32x512))
  Prog.lift (.store bcM (rBc c) (doneV c xc sw o r rb) Finset.univ
    (View.stores_vmem h_S32x512 ((Memref.isWhole_whole cc0_scratch2).storeExact_slice rfl _ (k0_off4_packedbf16 c)) (fun _ => rfl)) (.inl rfl))
  steps (rowStep c) 31 (le_refl 31)
  steps (rowWait c) 31 (le_refl 31)
  let b : Vec F S1024x512 .bf16 ← Prog.lift (.load bcM rOut.toLoadRect (View.loadsAt_vmem h_S1024x512))
  let _ : Vec F S1024x512 .f32 ← Prog.lift (.load outM rOut.toLoadRect (View.loadsAt_vmem h_S1024x512))
  Prog.lift (.store outM rOut (k0_pay36 b) Finset.univ (View.stores_vmem_bits_univ h_S1024x512 rfl) (.inl rfl))
  steps (outWait c) 31 (le_refl 31)

end Cert.Moe

end
-- ==== Proof.Ring.lean ====
/-
# The peers, the cells and the shares of the buffers

Offsets: device `c`'s `j`-th peer up is `c + (j + 1)`, its `j`-th peer down `c - (j + 1)`, around the 32 devices.
Device `c` is its `j`-th peer up's peer up at the offset `rev j`. A device's cells are its barrier semaphore and its
four arrays of 31 transfer semaphores. The two buffers of blocks are cut into 32 blocks of eight rows, the buffer of
finished rows into 32 chunks of 32 rows.
-/
module

public import proofs.«01_k».proof.Proof.Shape
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The peers -/

def nb (c : Dev nD) (j : Fin 31) : Dev nD := ⟨(c.val + (j.val + 1)) % 32, Nat.mod_lt _ (by decide)⟩
def prv (c : Dev nD) (j : Fin 31) : Dev nD := ⟨(c.val + (31 - j.val)) % 32, Nat.mod_lt _ (by decide)⟩
def rev (j : Fin 31) : Fin 31 := ⟨30 - j.val, by omega⟩
/-- The device `b` before `c`, `b < 32`. -/
def bef (c : Dev nD) (b : Fin 32) : Dev nD := ⟨(c.val + (32 - b.val)) % 32, Nat.mod_lt _ (by decide)⟩

theorem dev_lt (c : Dev nD) : c.val < 32 := c.isLt

theorem nb_prv (c : Dev nD) (j : Fin 31) : nb (prv c j) j = c := by
  have := dev_lt c; have := j.isLt; apply Fin.ext; simp only [nb, prv]; omega
theorem prv_nb (c : Dev nD) (j : Fin 31) : prv (nb c j) j = c := by
  have := dev_lt c; have := j.isLt; apply Fin.ext; simp only [nb, prv]; omega
theorem nb_rev (c : Dev nD) (j : Fin 31) : nb (nb c j) (rev j) = c := by
  have := dev_lt c; have := j.isLt; apply Fin.ext; simp only [nb, rev]; omega
theorem rev_rev (j : Fin 31) : rev (rev j) = j := by have := j.isLt; apply Fin.ext; simp only [rev]; omega
theorem prv_eq_nb (c : Dev nD) (j : Fin 31) : prv c j = nb c (rev j) := by
  have := dev_lt c; have := j.isLt; apply Fin.ext; simp only [nb, prv, rev]; omega
theorem nb_ne (c : Dev nD) (j : Fin 31) : nb c j ≠ c := fun h => by
  have := dev_lt c; have := j.isLt; have := congrArg Fin.val h; simp only [nb] at this; omega
theorem nb_inj (c : Dev nD) {i j : Fin 31} (h : nb c i = nb c j) : i = j := by
  have := dev_lt c; have := j.isLt; have := i.isLt; have := congrArg Fin.val h; apply Fin.ext; simp only [nb] at this; omega
theorem exists_nb (c d : Dev nD) (h : d ≠ c) : ∃ j, nb c j = d := by
  have := dev_lt c; have := dev_lt d
  have hv : d.val ≠ c.val := fun e => h (Fin.ext e)
  refine ⟨⟨(d.val + 31 - c.val) % 32, by omega⟩, Fin.ext ?_⟩
  simp only [nb]; omega
theorem bef_succ (c : Dev nD) (j : Fin 31) : bef c j.succ = prv c j := by
  have := dev_lt c; have := j.isLt; apply Fin.ext; simp only [bef, prv, Fin.val_succ]; omega
theorem bef_zero (c : Dev nD) : bef c 0 = c := by
  have := dev_lt c; apply Fin.ext; simp only [bef, Fin.val_zero]; omega
theorem bef_nb (c : Dev nD) (j : Fin 31) : bef (nb c j) j.succ = c := by rw [bef_succ, prv_nb]

/-- Around the ring by the offset `j`. -/
def turn (j : Fin 31) : Dev nD ≃ Dev nD := ⟨fun c => nb c j, fun c => prv c j, fun c => prv_nb c j, fun c => nb_prv c j⟩
def revE : Fin 31 ≃ Fin 31 := ⟨rev, rev, rev_rev, rev_rev⟩

theorem sigDev_eq (c : Dev nD) (j : Fin 31) : sigDev c j = nb c j := by
  revert c j; decide +kernel
theorem blkDev_eq (c : Dev nD) (j : Fin 31) : blkDev c j = nb c j := by
  revert c j; decide +kernel
theorem rowDev_eq (c : Dev nD) (j : Fin 31) : rowDev c j = nb c j := by
  revert c j; decide +kernel

/-! ## The cells -/

/-- A device's cells: none, the barrier semaphore; or a transfer semaphore, its array and its offset. -/
abbrev CI : Type := Option (Fin 4 × Fin 31)

theorem dsm_val (q : Fin 4) (j : Fin 31) : (dsm q j).val = 6 + 31 * q.val + j.val := by revert q j; decide

/-- The kernel's own transfer semaphores, as the launch counts them. -/
def osem (qj : Fin 4 × Fin 31) : SemLoc sig := .dma (dsm qj.1 qj.2)
def ksem : CI → SemLoc sig
  | none => .reg barS
  | some (q, j) => .dma (dsm q j)

theorem dsm_inj {q q' : Fin 4} {j j' : Fin 31} (h : dsm q j = dsm q' j') : q = q' ∧ j = j' := by
  have hv := congrArg Fin.val h
  rw [dsm_val, dsm_val] at hv
  have := j.isLt; have := j'.isLt
  exact ⟨Fin.ext (by omega), Fin.ext (by omega)⟩

theorem ksem_inj : Function.Injective ksem := by
  rintro (_ | ⟨q, j⟩) (_ | ⟨q', j'⟩) h
  · rfl
  · cases h
  · cases h
  · obtain ⟨rfl, rfl⟩ := dsm_inj (SemLoc.dma.inj h); rfl

/-- Which of a device's cells a semaphore is. -/
def kinv : SemLoc sig → Option CI := Function.partialInv ksem

theorem kinv_ksem (i : CI) : kinv (ksem i) = some i := Function.partialInv_left ksem_inj i
theorem kinv_of_ne {s : SemLoc sig} (h : ∀ i, ksem i ≠ s) : kinv s = none := by
  unfold kinv Function.partialInv; exact dif_neg fun ⟨i, hi⟩ => h i hi

abbrev kcell (c : Dev nD) (i : CI) : GSem nD τ sig := ((c : Thread nD τ), ksem i)
abbrev barCell (c : Dev nD) : GSem nD τ sig := kcell c none
abbrev xCell (q : Fin 4) (j : Fin 31) (c : Dev nD) : GSem nD τ sig := kcell c (some (q, j))

theorem kcell_inj : Function.Injective fun ci : Dev nD × CI => kcell ci.1 ci.2 := by
  rintro ⟨c, i⟩ ⟨c', i'⟩ h
  have h1 : c = c' := congrArg (fun g : GSem nD τ sig => g.1.1) h
  have h2 : i = i' := ksem_inj (congrArg (fun g : GSem nD τ sig => g.2) h)
  rw [h1, h2]

/-- What the transfer of a block credits, and what the transfer of a chunk of finished rows does. -/
abbrev Nr : ℕ := (rbBlk 0).view.dmaCredit
abbrev Nb : ℕ := (bcOwn 0).view.dmaCredit
def Nq (q : Fin 4) : ℕ := if q.val < 2 then Nr else Nb
theorem Nr_pos : 0 < Nr := View.dmaCredit_pos _ (by decide)
theorem Nb_pos : 0 < Nb := View.dmaCredit_pos _ (by decide)
theorem Nq_pos (q : Fin 4) : 0 < Nq q := by unfold Nq; split; exacts [Nr_pos, Nb_pos]

theorem credit_rb (b : Fin 32) : (rbBlk b).view.dmaCredit = Nr := rfl
theorem credit_sb (b : Fin 32) : (sbBlk b).view.dmaCredit = Nr := rfl
theorem credit_own (c : Dev nD) : (bcOwn c).view.dmaCredit = Nb := rfl
theorem credit_src (c : Dev nD) (j : Fin 31) : (bcSrc c j).view.dmaCredit = Nb := rfl

/-! ## The blocks and the chunks -/

/-- The elements of block `b`. -/
def blkS (b : Fin 32) : Finset S256x512.Idx := (Rect.unit (s := S256x512) ![8 * b.val, 0] S8x512.size (blk_inb b)).set
/-- The elements of chunk `d`. -/
def rowS (d : Dev nD) : Finset S1024x512.Idx := (Rect.unit (s := S1024x512) (k0_off5 d) S32x512.size (k0_off5_inb d)).set

theorem mem_blkS {b : Fin 32} {i : S256x512.Idx} : i ∈ blkS b ↔ (i 0).val / 8 = b.val := by
  unfold blkS
  rw [Rect.mem_set_unit]
  constructor
  · intro h
    have h0 := h 0
    simp only [Matrix.cons_val_zero, S8x512, Shape.size] at h0
    omega
  · intro h a
    have h1 : (i 1).val < 512 := (i 1).isLt
    fin_cases a
    · simp [S8x512]; omega
    · simp [S8x512]; omega
theorem mem_rowS {d : Dev nD} {i : S1024x512.Idx} : i ∈ rowS d ↔ (i 0).val / 32 = d.val := by
  unfold rowS
  rw [Rect.mem_set_unit, k0_off5_eq]
  constructor
  · intro h
    have h0 := h 0
    simp only [Matrix.cons_val_zero, S32x512, Shape.size] at h0
    omega
  · intro h a
    have h1 : (i 1).val < 512 := (i 1).isLt
    fin_cases a
    · simp [S32x512]; omega
    · simp [S32x512]; omega

theorem blkS_disj : ∀ a ∈ (Finset.univ : Finset (Fin 32)), ∀ b ∈ (Finset.univ : Finset (Fin 32)), a ≠ b → Disjoint (blkS a) (blkS b) := by
  intro a _ b _ h
  rw [Finset.disjoint_left]
  intro i ha hb
  exact h (Fin.ext ((mem_blkS.mp ha).symm.trans (mem_blkS.mp hb)))
theorem rowS_disj : ∀ a ∈ (Finset.univ : Finset (Dev nD)), ∀ b ∈ (Finset.univ : Finset (Dev nD)), a ≠ b → Disjoint (rowS a) (rowS b) := by
  intro a _ b _ h
  rw [Finset.disjoint_left]
  intro i ha hb
  exact h (Fin.ext ((mem_rowS.mp ha).symm.trans (mem_rowS.mp hb)))
theorem blkS_union : (Finset.univ : Finset (Fin 32)).biUnion blkS = Finset.univ := by
  ext i
  have h : (i 0).val < 256 := (i 0).isLt
  simp only [Finset.mem_biUnion, Finset.mem_univ, true_and, iff_true]
  exact ⟨⟨(i 0).val / 8, by omega⟩, mem_blkS.mpr rfl⟩
theorem rowS_union : (Finset.univ : Finset (Dev nD)).biUnion rowS = Finset.univ := by
  ext i
  have h : (i 0).val < 1024 := (i 0).isLt
  simp only [Finset.mem_biUnion, Finset.mem_univ, true_and, iff_true]
  exact ⟨⟨(i 0).val / 32, by show _ < 32; omega⟩, mem_rowS.mpr rfl⟩

theorem rb_set (b : Fin 32) : (rbBlk b).view.set = blkS b := View.set_slice_whole _ _
theorem sb_set (b : Fin 32) : (sbBlk b).view.set = blkS b := View.set_slice_whole _ _
theorem own_set (d : Dev nD) : (bcOwn d).view.set = rowS d := View.set_slice_whole _ _

/-! ## The buffers' contents -/

abbrev sbLoc (c : Dev nD) : Loc nD τ sig := (sbM : Memref sig .tc .vmem S256x512 .bf16).view.loc (c : Thread nD τ)
abbrev rbLoc (c : Dev nD) : Loc nD τ sig := (rbM : Memref sig .tc .vmem S256x512 .bf16).view.loc (c : Thread nD τ)
abbrev bcLoc (c : Dev nD) : Loc nD τ sig := (bcM : Memref sig .tc .vmem S1024x512 .bf16).view.loc (c : Thread nD τ)
abbrev mtLoc (c : Dev nD) : Loc nD τ sig := (mtM : Memref sig .tc .vmem S1024x2 .f32).view.loc (c : Thread nD τ)

omit [FloatOps F] in
/-- A block sent lands as it was. -/
theorem blk_landed (b : Fin 32) (fd : Vec F S256x512 .bf16) (fs : Vec F S256x512 .bf16) (i : S256x512.Idx) (hi : i ∈ blkS b) :
    (rbBlk b).view.write (Elt F) fd ((sbBlk b).view.read (Elt F) fs) Finset.univ i = fs i := by
  rw [← rb_set] at hi
  obtain ⟨x, -, rfl⟩ := Finset.mem_map.mp hi
  rw [View.write_emb_of_mem _ _ (Finset.mem_univ x)]
  rfl
omit [FloatOps F] in
/-- A chunk sent lands as it was. -/
theorem row_landed (d : Dev nD) (fd : Vec F S1024x512 .bf16) (fs : Vec F S1024x512 .bf16) (i : S1024x512.Idx) (hi : i ∈ rowS d) :
    (bcOwn d).view.write (Elt F) fd ((bcOwn d).view.read (Elt F) fs) Finset.univ i = fs i := by
  rw [← own_set] at hi
  obtain ⟨x, -, rfl⟩ := Finset.mem_map.mp hi
  rw [View.write_emb_of_mem _ _ (Finset.mem_univ x)]
  rfl

end Cert.Moe

end
-- ==== Proof.Protocol.lean ====
/-
# The protocol

Every device's cells have one round. A device's barrier cell has 31 duties of one unit: the `j`-th is paid by its
`j`-th peer up, and hands over that peer's block `j + 1` of received blocks and the device's own chunk of that peer's
finished rows, the two places the device will write there. Each transfer semaphore has one duty, the transfer's
credit: it hands back what was sent (a block, or one read share of the device's finished chunk), or hands over what
has come (a block, or a chunk of finished rows), with the contents stated.
-/
module

public import proofs.«01_k».proof.Proof.Ring

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s arguments. -/
def xA (c : Dev nD) : Vec F S1024x256 .f32 := m ((c : Thread nD τ).loc main_arg0)
def rwA (c : Dev nD) : Vec F S256x128 .f32 := m ((c : Thread nD τ).loc main_arg1)
def ixA (c : Dev nD) : Vec F S1024x1 .i32 := m ((c : Thread nD τ).loc main_arg2)
def ewA (c : Dev nD) : Vec F S4x256x512 .f32 := m ((c : Thread nD τ).loc main_arg3)
def swA (c : Dev nD) : Vec F S256x512 .f32 := m ((c : Thread nD τ).loc main_arg4)

/-- The blocks device `c` sends; -/
def sendA (c : Dev nD) : Vec F S256x512 .bf16 :=
  sendV c (xA m c) (rwA m c) (ixA m c)
    ((ewM : Memref sig .tc .vmem S4x256x512 .f32).view.readAt (Elt F) rW0.toLoadRect (ewA m c))
    ((ewM : Memref sig .tc .vmem S4x256x512 .f32).view.readAt (Elt F) rW1.toLoadRect (ewA m c))
    ((ewM : Memref sig .tc .vmem S4x256x512 .f32).view.readAt (Elt F) rW2.toLoadRect (ewA m c))
    ((ewM : Memref sig .tc .vmem S4x256x512 .f32).view.readAt (Elt F) rW3.toLoadRect (ewA m c))
/-- the blocks it holds when all have come: block `b` is that of the device `b` before; -/
def recvA (c : Dev nD) : Vec F S256x512 .bf16 := fun i =>
  sendA m (bef c ⟨(i 0).val / 8, by have h : (i 0).val < 256 := (i 0).isLt; omega⟩) i
/-- row `32 c + i` of a one-column table. -/
def chunkRow (c : Dev nD) (i : S32x1.Idx) : S1024x1.Idx :=
  ix2 ⟨32 * c.val + (i 0).val, by have h : (i 0).val < 32 := (i 0).isLt; have := dev_lt c; omega⟩ ⟨0, by decide⟩
/-- Its finished rows; -/
def doneA (c : Dev nD) : Vec F S32x512 .bf16 :=
  doneV c ((xM : Memref sig .tc .vmem S1024x256 .f32).view.readAt (Elt F) (rXc c).toLoadRect (xA m c)) (swA m c)
    (fun i => ownF (ixA m c) (chunkRow c i)) (fun i => rankF' (ixA m c) (chunkRow c i)) (recvA m c)
/-- and everyone's. -/
def rowsA : Vec F S1024x512 .bf16 := fun i =>
  doneA m ⟨(i 0).val / 32, by have h : (i 0).val < 1024 := (i 0).isLt; show _ < 32; omega⟩
    (ix2 ⟨(i 0).val % 32, Nat.mod_lt _ (by decide)⟩ ⟨(i 1).val, (i 1).isLt⟩)

/-! ## Pieces of the buffers held -/

def sbP (c : Dev nD) (b : Fin 32) (f : Vec F S256x512 .bf16) : sProp 𝕄 := sbLoc c ↦[blkS b]{fullShare} f
def rbP (c : Dev nD) (b : Fin 32) (f : Vec F S256x512 .bf16) : sProp 𝕄 := rbLoc c ↦[blkS b]{fullShare} f
def bcP (c : Dev nD) (d : Dev nD) (q : PosShare TreeShare) (f : Vec F S1024x512 .bf16) : sProp 𝕄 := bcLoc c ↦[rowS d]{q} f
/-- The read share of its finished chunk that device's `j`-th send takes. -/
abbrev tk (j : Fin 31) : PosShare TreeShare := Transfers.shareTok fullShare 31 j
/-- What is left after 31 of them. -/
abbrev rest31 : PosShare TreeShare := Transfers.shareDrop fullShare 31

omit [FloatOps F] in
instance sbP_storable (c : Dev nD) (b : Fin 32) (f) : BI.Storable (upEmb : UEmb _ 𝕄) (sbP (F := F) c b f) := by unfold sbP; infer_instance
omit [FloatOps F] in
instance rbP_storable (c : Dev nD) (b : Fin 32) (f) : BI.Storable (upEmb : UEmb _ 𝕄) (rbP (F := F) c b f) := by unfold rbP; infer_instance
omit [FloatOps F] in
instance bcP_storable (c d : Dev nD) (q) (f) : BI.Storable (upEmb : UEmb _ 𝕄) (bcP (F := F) c d q f) := by unfold bcP; infer_instance

/-! ## The schedule -/

/-- What the `j`-th duty of device `c`'s barrier cell hands over. -/
def barPay (c : Dev nD) (j : Fin 31) : sProp 𝕄 :=
  iprop((∃ f, rbP (F := F) (nb c j) j.succ f) ∗ ∃ f, bcP (F := F) (nb c j) c fullShare f)
/-- What the duty of device `c`'s transfer semaphore `(q, j)` hands over. -/
def xPay (c : Dev nD) : Fin 4 → Fin 31 → sProp 𝕄
  | 0, j => sbP c j.succ (sendA m c)
  | 1, j => rbP c j.succ (recvA m c)
  | 2, j => bcP c c (tk j) (rowsA m)
  | 3, j => bcP c (prv c j) fullShare (rowsA m)

instance barPay_storable (c : Dev nD) (j : Fin 31) : BI.Storable (upEmb : UEmb _ 𝕄) (barPay (F := F) c j) := by
  unfold barPay; infer_instance
instance xPay_storable (c : Dev nD) (q : Fin 4) (j : Fin 31) : BI.Storable (upEmb : UEmb _ 𝕄) (xPay (F := F) m c q j) := by
  unfold xPay; split <;> infer_instance

def dutiesOf (o : Option CI) : Finset (Fin 31) :=
  match o with
  | none => ∅
  | some none => Finset.univ
  | some (some _) => {0}
def amountOf (o : Option CI) : ℕ :=
  match o with
  | some (some (q, _)) => Nq q
  | _ => 1
def payOf (c : Dev nD) (o : Option CI) (d : Fin 31) : sProp 𝕄 :=
  match o with
  | none => iprop(emp)
  | some none => barPay c d
  | some (some (q, j)) => xPay m c q j

instance payOf_storable (c : Dev nD) (o : Option CI) (d : Fin 31) : BI.Storable (upEmb : UEmb _ 𝕄) (payOf (F := F) m c o d) := by
  unfold payOf; split <;> infer_instance

def Rd : Rounds.Schedule (GSem nD τ sig) (Fin 31) 𝕄 where
  duties g r := if r = 0 ∧ g.1.2 = .tc then dutiesOf (kinv g.2) else ∅
  unitless _ := False
  amount g _ _ := amountOf (kinv g.2)
  payload g _ d := payOf m g.1.1 (kinv g.2) d
  amount_pos g _ _ _ := by
    unfold amountOf; split
    · exact Nq_pos _
    · exact Nat.one_pos

instance Rd_payload_storable (g : GSem nD τ sig) (r : ℕ) (d : Fin 31) :
    BI.Storable (upEmb : UEmb _ 𝕄) ((Rd (F := F) m).payload g r d) := payOf_storable m _ _ _

section Sched
variable (c : Dev nD) (q : Fin 4) (j : Fin 31)

theorem duties_bar : (Rd (F := F) m).duties (barCell c) 0 = Finset.univ := by
  dsimp only [Rd]; rw [if_pos ⟨rfl, rfl⟩, kinv_ksem]; rfl
theorem duties_x : (Rd (F := F) m).duties (xCell q j c) 0 = {0} := by
  dsimp only [Rd]; rw [if_pos ⟨rfl, rfl⟩, kinv_ksem]; rfl
theorem duties_later (g : GSem nD τ sig) : ∀ r, 1 ≤ r → (Rd (F := F) m).duties g r = ∅ :=
  fun r hr => by dsimp only [Rd]; rw [if_neg fun h => by omega]
theorem amount_bar (d : Fin 31) : (Rd (F := F) m).amount (barCell c) 0 d = 1 := by dsimp only [Rd]; rw [kinv_ksem]; rfl
theorem amount_x (d : Fin 31) : (Rd (F := F) m).amount (xCell q j c) 0 d = Nq q := by dsimp only [Rd]; rw [kinv_ksem]; rfl
theorem payload_bar (d : Fin 31) : (Rd (F := F) m).payload (barCell c) 0 d = barPay c d := by dsimp only [Rd]; rw [kinv_ksem]; rfl
theorem payload_x (d : Fin 31) : (Rd (F := F) m).payload (xCell q j c) 0 d = xPay m c q j := by dsimp only [Rd]; rw [kinv_ksem]; rfl
theorem expect_bar : (Rd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_x : (Rd (F := F) m).expect (xCell q j c) 0 = Nq q := by
  unfold Schedule.expect Schedule.amountOf; rw [duties_x, Finset.sum_singleton, amount_x]
theorem rest_bar : bigSep ((Rd (F := F) m).duties (barCell c) 0 \ ∅) (fun d => (Rd (F := F) m).payload (barCell c) 0 d)
    = bigSep Finset.univ fun j => barPay (F := F) c j := by
  rw [Finset.sdiff_empty, duties_bar]; exact bigSep_congr fun d _ => payload_bar m c d
theorem rest_x : bigSep ((Rd (F := F) m).duties (xCell q j c) 0 \ ∅) (fun d => (Rd (F := F) m).payload (xCell q j c) 0 d) = xPay m c q j := by
  rw [Finset.sdiff_empty, duties_x, bigSep_singleton, payload_x]

end Sched

/-! ## What each device owes; the levels -/

/-- The offsets from `n` on, and those before `n`. -/
def upFrom (n : ℕ) : Finset (Fin 31) := Finset.univ.filter fun j => n ≤ j.val
def below (n : ℕ) : Finset (Fin 31) := Finset.univ.filter fun j => j.val < n

theorem upFrom_zero : upFrom 0 = Finset.univ := by decide
theorem upFrom_end : upFrom 31 = ∅ := by decide
theorem below_zero : below 0 = ∅ := by decide
theorem below_end : below 31 = Finset.univ := by decide
theorem upFrom_step (j : Fin 31) : upFrom j.val = insert j (upFrom (j.val + 1)) := by revert j; decide
theorem not_mem_upFrom (j : Fin 31) : j ∉ upFrom (j.val + 1) := by revert j; decide
theorem below_step (j : Fin 31) : below (j.val + 1) = insert j (below j.val) := by revert j; decide
theorem not_mem_below (j : Fin 31) : j ∉ below j.val := by revert j; decide

/-- The units owed to the barrier cells from the `n`-th peer on; the credits of the blocks; the credits of the rows. -/
def oBar (c : Dev nD) (n : ℕ) : CellTallies nD τ sig Unit := ∑ j ∈ upFrom n, tallyAt (barCell (nb c j)) () 1
def oBlk (c : Dev nD) (n : ℕ) : CellTallies nD τ sig Unit := ∑ j ∈ upFrom n, tallyAt (xCell 1 j (nb c j)) () (Nq 1)
def oRow (c : Dev nD) (n : ℕ) : CellTallies nD τ sig Unit := ∑ j ∈ upFrom n, tallyAt (xCell 3 j (nb c j)) () (Nq 3)
/-- What device `c` owes at launch. -/
def O₀ (c : Dev nD) : CellTallies nD τ sig Unit := oRow c 0 + oBlk c 0 + oBar c 0

theorem oBar_step (c : Dev nD) (j : Fin 31) : oBar c j.val = oBar c (j.val + 1) + tallyAt (barCell (nb c j)) () 1 := by
  unfold oBar; rw [upFrom_step, Finset.sum_insert (not_mem_upFrom j), add_comm]
theorem oBlk_step (c : Dev nD) (j : Fin 31) : oBlk c j.val = oBlk c (j.val + 1) + tallyAt (xCell 1 j (nb c j)) () (Nq 1) := by
  unfold oBlk; rw [upFrom_step, Finset.sum_insert (not_mem_upFrom j), add_comm]
theorem oRow_step (c : Dev nD) (j : Fin 31) : oRow c j.val = oRow c (j.val + 1) + tallyAt (xCell 3 j (nb c j)) () (Nq 3) := by
  unfold oRow; rw [upFrom_step, Finset.sum_insert (not_mem_upFrom j), add_comm]
theorem oBar_end (c : Dev nD) : oBar c 31 = 0 := by unfold oBar; rw [upFrom_end, Finset.sum_empty]
theorem oBlk_end (c : Dev nD) : oBlk c 31 = 0 := by unfold oBlk; rw [upFrom_end, Finset.sum_empty]
theorem oRow_end (c : Dev nD) : oRow c 31 = 0 := by unfold oRow; rw [upFrom_end, Finset.sum_empty]

def L (g : GSem nD τ sig) : Finset Unit := if g.1.2 = .tc then {()} else ∅
/-- Barrier cells at 1, the cells blocks come in on at 2, the cells rows come in on at 3, everything else at 0. -/
def lvOf (o : Option CI) : ℕ :=
  match o with
  | some none => 1
  | some (some (q, _)) => if q = 1 then 2 else if q = 3 then 3 else 0
  | none => 0
def lv (g : GSem nD τ sig) (_ : Unit) : ℕ := lvOf (kinv g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (kcell c i) u = lvOf (some i) := by unfold lv; rw [kinv_ksem]

/-- A cell a sum of units at cells owes is one of them. -/
theorem sum_tally_pos (s : Finset (Fin 31)) (g' : Fin 31 → GSem nD τ sig) (N : ℕ) {g : GSem nD τ sig} {u : Unit}
    (h : 0 < (∑ j ∈ s, tallyAt (g' j) () N : CellTallies nD τ sig Unit) g u) : ∃ j, g = g' j := by
  by_contra hn
  rw [Finset.sum_apply, Finsupp.finsetSum_apply, Finset.sum_eq_zero] at h
  · exact Nat.lt_irrefl 0 h
  · intro j _
    rw [tallyAt_apply, if_neg (fun h' => hn ⟨j, h'.1⟩)]

/-- A sum of debts each above the level waited at may be owed while waiting. -/
theorem mayWait_of {c : Dev nD} {sm : SemLoc sig} {O : CellTallies nD τ sig Unit} (b : ℕ) (hb : lvOf (kinv sm) ≤ b)
    (hO : ∀ (g : GSem nD τ sig) (u : Unit), 0 < O g u → ∃ d i, g = kcell d i ∧ b < lvOf (some i)) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, i, rfl, _⟩ := hO g u hg; rw [L_tc]; exact Finset.mem_singleton_self _)
    (fun p hp => by rw [Finset.mem_singleton.mp hp]; exact hb)
    (fun g u hg => by obtain ⟨d, i, rfl, h⟩ := hO g u hg; rw [lv_cell]; exact h)

theorem oRow_pos {c : Dev nD} {n : ℕ} {g : GSem nD τ sig} {u : Unit} (h : 0 < oRow c n g u) : ∃ d i, g = kcell d i ∧ 2 < lvOf (some i) := by
  obtain ⟨j, rfl⟩ := sum_tally_pos _ _ _ h
  exact ⟨_, _, rfl, by simp [lvOf]⟩
theorem oBlk_pos {c : Dev nD} {n : ℕ} {g : GSem nD τ sig} {u : Unit} (h : 0 < oBlk c n g u) : ∃ d i, g = kcell d i ∧ 1 < lvOf (some i) := by
  obtain ⟨j, rfl⟩ := sum_tally_pos _ _ _ h
  exact ⟨_, _, rfl, by simp [lvOf]⟩
theorem oBar_pos {c : Dev nD} {n : ℕ} {g : GSem nD τ sig} {u : Unit} (h : 0 < oBar c n g u) : ∃ d i, g = kcell d i ∧ 0 < lvOf (some i) := by
  obtain ⟨j, rfl⟩ := sum_tally_pos _ _ _ h
  exact ⟨_, _, rfl, by decide⟩
theorem add_pos_or {A B : CellTallies nD τ sig Unit} {g : GSem nD τ sig} {u : Unit} (h : 0 < (A + B) g u) : 0 < A g u ∨ 0 < B g u := by
  rw [Pi.add_apply, Finsupp.add_apply] at h; omega

theorem mayWait_bar (c : Dev nD) : (levAts L lv : sProp 𝕄) ⊢ MayWait (c : Thread nD τ) (ksem none) () (oRow c 0 + oBlk c 0) :=
  mayWait_of 1 (by rw [kinv_ksem]; decide) fun g u h => by
    rcases add_pos_or h with h | h
    · obtain ⟨d, i, e, hl⟩ := oRow_pos h; exact ⟨d, i, e, by omega⟩
    · exact oBlk_pos h
theorem mayWait_blk (c : Dev nD) (j : Fin 31) : (levAts L lv : sProp 𝕄) ⊢ MayWait (c : Thread nD τ) (ksem (some (1, j))) () (oRow c 0) :=
  mayWait_of 2 (by rw [kinv_ksem]; simp [lvOf]) fun g u h => oRow_pos h
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_of 0 ?_ fun g u h => ?_
    · rw [kinv_of_ne]
      · exact le_refl 0
      · rintro (_ | ⟨q', j⟩) h
        · cases h
        · have hv := congrArg Fin.val (SemLoc.dma.inj h)
          rw [dsm_val] at hv; omega
    · rcases add_pos_or h with h | h
      · rcases add_pos_or h with h | h
        · obtain ⟨d, i, e, hl⟩ := oRow_pos h; exact ⟨d, i, e, by omega⟩
        · obtain ⟨d, i, e, hl⟩ := oBlk_pos h; exact ⟨d, i, e, by omega⟩
      · exact oBar_pos h
  · rw [MayWait_zero]; iintro -; iempintro

end Cert.Moe

end
-- ==== Proof.Steps.lean ====
/-
# A run of like steps, and each kind of step

`wp_steps`: if the `j`-th step takes what is owed at `j` and `Φ j` to what is owed at `j + 1` and `Ψ j`, the run takes
all the `Φ`s to all the `Ψ`s. Then the kinds: a barrier signal, a block sent, a block awaited, a chunk of finished rows
sent, a chunk awaited, and the two waits for a device's own sends.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program on device `c`. -/
abbrev WP {α : Type} (c : Dev nD) (p : P F α) (Q : α → sProp 𝕄) : sProp 𝕄 :=
  wp frame (wpE (defs₀ (F := F)) 𝒱₀ (c : Thread nD τ) none) Set.univ p Q

/-- What device `c` owes, whatever its waits. -/
def owesS (c : Dev nD) (O : CellTallies nD τ sig Unit) : sProp 𝕄 := iprop(∃ W, owes (c : Thread nD τ) O W)

theorem wp_steps_from {α : Type} (c : Dev nD) (s : Fin 31 → P F PUnit) (R : sProp 𝕄) [BI.Persistent R]
    (O : ℕ → CellTallies nD τ sig Unit) (Φ Ψ : Fin 31 → sProp 𝕄) (Q : α → sProp 𝕄)
    (hstep : ∀ (j : Fin 31) (k : PUnit → P F α),
      iprop(R ∗ owesS c (O j.val) ∗ Φ j) ⊢ iprop(((owesS c (O (j.val + 1)) ∗ Ψ j) -∗ WP c (k ⟨⟩) Q) -∗ WP c (s j >>= k) Q))
    (k : PUnit → P F α) : ∀ (n : ℕ) (h : n ≤ 31),
      iprop(R ∗ owesS c (O (31 - n)) ∗ bigSep (upFrom (31 - n)) Φ ∗ bigSep (below (31 - n)) Ψ)
        ⊢ iprop(((owesS c (O 31) ∗ bigSep Finset.univ Ψ) -∗ WP c (k ⟨⟩) Q) -∗ WP c (steps s n h >>= k) Q) := by
  intro n
  induction n with
  | zero =>
    intro h
    rw [Nat.sub_zero, below_end]
    show _ ⊢ iprop(_ -∗ WP c (k ⟨⟩) Q)
    iintro ⟨-, HO, -, HΨ⟩ Hk
    iapply Hk
    isplitl [HO]; · iexact HO
    iexact HΨ
  | succ n ih =>
    intro h
    have hj : (31 - (n + 1) : ℕ) = (⟨31 - (n + 1), by omega⟩ : Fin 31).val := rfl
    rw [hj]
    generalize hjj : (⟨31 - (n + 1), by omega⟩ : Fin 31) = j
    have hjv : j.val + 1 = 31 - n := by rw [← hjj]; show 31 - (n + 1) + 1 = 31 - n; omega
    have hs : steps s (n + 1) h >>= k = s j >>= fun _ => steps s n (by omega) >>= k := by
      subst hjj; show (s _ >>= fun _ => steps s n _) >>= k = _; exact Prog.bind_assoc _ _ _
    have e1 : bigSep (upFrom j.val) Φ = iprop(Φ j ∗ bigSep (upFrom (j.val + 1)) Φ) := by
      rw [upFrom_step]; exact bigSep_insert (not_mem_upFrom j)
    have e2 : bigSep (below (j.val + 1)) Ψ = iprop(Ψ j ∗ bigSep (below j.val) Ψ) := by
      rw [below_step]; exact bigSep_insert (not_mem_below j)
    rw [hs, e1]
    have h1 := hstep j (fun _ => steps s n (by omega) >>= k)
    have h2 := ih (by omega)
    rw [← hjv, e2] at h2
    iintro ⟨#HR, HO, ⟨Hj, HΦ⟩, HΨ⟩ Hk
    iapply h1 $$ [HO Hj]
    · isplitr; · iexact HR
      isplitl [HO]; · iexact HO
      iexact Hj
    iintro ⟨HO, Hj⟩
    iapply h2 $$ [HO Hj HΦ HΨ]
    · isplitr; · iexact HR
      isplitl [HO]; · iexact HO
      isplitl [HΦ]; · iexact HΦ
      isplitl [Hj]; · iexact Hj
      iexact HΨ
    iexact Hk

theorem wp_steps {α : Type} (c : Dev nD) (s : Fin 31 → P F PUnit) (R : sProp 𝕄) [BI.Persistent R]
    (O : ℕ → CellTallies nD τ sig Unit) (Φ Ψ : Fin 31 → sProp 𝕄) (Q : α → sProp 𝕄)
    (hstep : ∀ (j : Fin 31) (k : PUnit → P F α),
      iprop(R ∗ owesS c (O j.val) ∗ Φ j) ⊢ iprop(((owesS c (O (j.val + 1)) ∗ Ψ j) -∗ WP c (k ⟨⟩) Q) -∗ WP c (s j >>= k) Q))
    (k : PUnit → P F α) :
    iprop(R ∗ owesS c (O 0) ∗ bigSep Finset.univ Φ)
      ⊢ iprop(((owesS c (O 31) ∗ bigSep Finset.univ Ψ) -∗ WP c (k ⟨⟩) Q) -∗ WP c (steps s 31 (le_refl 31) >>= k) Q) := by
  have h := wp_steps_from c s R O Φ Ψ Q hstep k 31 (le_refl 31)
  rw [Nat.sub_self, upFrom_zero, below_zero, bigSep_empty] at h
  iintro ⟨HR, HO, HΦ⟩
  iapply h
  isplitl [HR]; · iexact HR
  isplitl [HO]; · iexact HO
  isplitl [HΦ]; · iexact HΦ
  iempintro

/-! ## What every device knows -/

variable (m : (ℓ : Loc nD τ sig) → Buf (Elt F) ℓ) (K : Dev nD × CI → ℕ)

/-- Every cell's invariant, and that it has reached its round; and the levels. -/
def recs : sProp 𝕄 :=
  iprop((bigSep Finset.univ fun ci : Dev nD × CI => cellInv ER (Rd m) (K ci) (kcell ci.1 ci.2))
    ∗ (bigSep Finset.univ fun ci : Dev nD × CI => reached ER (kcell ci.1 ci.2) 0) ∗ levAts L lv)

instance recs_persistent : BI.Persistent (recs (F := F) m K) := by unfold recs; infer_instance

theorem inv_at (ci : Dev nD × CI) :
    (bigSep Finset.univ fun ci : Dev nD × CI => (cellInv ER (Rd m) (K ci) (kcell ci.1 ci.2) : sProp 𝕄)) ⊢ cellInv ER (Rd m) (K ci) (kcell ci.1 ci.2) :=
  bigSep_elim (Finset.mem_univ ci)
theorem reached_at (ci : Dev nD × CI) :
    (bigSep Finset.univ fun ci : Dev nD × CI => (reached ER (kcell ci.1 ci.2) 0 : sProp 𝕄)) ⊢ reached ER (kcell ci.1 ci.2) 0 :=
  bigSep_elim (Finset.mem_univ ci)
theorem recs_inv (c : Dev nD) (i : CI) : recs (F := F) m K ⊢ cellInv ER (Rd m) (K (c, i)) (kcell c i) := by
  unfold recs
  iintro ⟨H, -⟩
  iapply (inv_at m K (c, i)); iexact H
theorem recs_reached (c : Dev nD) (i : CI) : recs (F := F) m K ⊢ reached ER (kcell c i) 0 := by
  unfold recs
  iintro ⟨-, H, -⟩
  iapply (reached_at (F := F) (c, i)); iexact H
theorem recs_lev : recs (F := F) m K ⊢ levAts L lv := by
  unfold recs
  iintro ⟨-, -, H⟩; iexact H

/-! ## The signal -/

/-- The `j`-th signal takes the `rev j`-th duty of the `j`-th peer's barrier cell and the two places the peer will write. -/
def sigΦ (c : Dev nD) (j : Fin 31) : sProp 𝕄 :=
  iprop(dutyTok ER (barCell (nb c j)) 0 (rev j) ∗ (∃ f, rbP (F := F) c (rev j).succ f) ∗ ∃ f, bcP (F := F) c (nb c j) fullShare f)

theorem sig_step {α : Type} (c : Dev nD) (j : Fin 31) (O O' : CellTallies nD τ sig Unit) (hO : O = O' + tallyAt (barCell (nb c j)) () 1)
    (Q : α → sProp 𝕄) (k : PUnit → P F α) :
    iprop(recs m K ∗ owesS c O ∗ sigΦ c j) ⊢ iprop(((owesS c O' ∗ emp) -∗ WP c (k ⟨⟩) Q) -∗ WP c (sigStep c j >>= k) Q) := by
  unfold sigStep WP
  rw [sigDev_eq]
  simp only [semSignalWord, Prog.lift, Prog.bind_op, Prog.bind_ret, Prog.pure_eq_ret]
  unfold owesS sigΦ
  iintro ⟨#HR, ⟨%W, HO⟩, Htok, Hrb, Hbc⟩ Hk
  iapply (Rounds.wp_signal 𝒱₀ ER (Rd m) (c : Thread nD τ) none (dst := (nb c j : Thread nD τ)) (κ := K (nb c j, none)) (r := 0)
      (d := rev j) (by have h := duties_bar m (nb c j); exact h ▸ Finset.mem_univ _) ((amount_bar m (nb c j) (rev j)).trans (by decide)) () O' hO)
    $$ [HO Htok Hrb Hbc]
  · isplitr; · iapply (recs_inv m K (nb c j) none); iexact HR
    isplitl [HO]; · iexact HO
    isplitl [Htok]; · iexact Htok
    isplitl [Hrb Hbc]
    · have hp : (Rd m).payload ((nb c j : Thread nD τ), SemLoc.reg barS) 0 (rev j) = _ := payload_bar m (nb c j) (rev j)
      unfold barPay at hp
      rw [nb_rev] at hp
      iapply (Entails.of_eq hp.symm)
      isplitl [Hrb]; · iexact Hrb
      iexact Hbc
    iapply (recs_reached m K (nb c j) none); iexact HR
  iintro HO
  iapply Hk
  isplitl [HO]
  · iexists W; iexact HO
  iempintro

/-! ## The credits -/

theorem Nq_0 : Nq 0 = Nr := if_pos (by decide)
theorem Nq_1 : Nq 1 = Nr := if_pos (by decide)
theorem Nq_2 : Nq 2 = Nb := if_neg (by decide)
theorem Nq_3 : Nq 3 = Nb := if_neg (by decide)

/-- The credit a finished transfer leaves on its cell. -/
def credX (q : Fin 4) (c : Dev nD) (j : Fin 31) : sProp 𝕄 := cred (tallyAt (xCell q j c) () (Nq q))

end Cert.Moe

end
-- ==== Proof.Sends.lean ====
/-
# The two kinds of send
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The sends -/

/-- The `j`-th block's send takes the block, the place at the `j`-th peer, and the two duties; it gives its own cell's credit. -/
def blkΦ (c : Dev nD) (j : Fin 31) : sProp 𝕄 :=
  iprop(sbP c j.succ (sendA m c) ∗ (∃ f, rbP (F := F) (nb c j) j.succ f) ∗ dutyTok ER (xCell 0 j c) 0 0 ∗ dutyTok ER (xCell 1 j (nb c j)) 0 0)

theorem blk_pay_out (c : Dev nD) (j : Fin 31) :
    ((sbBlk j.succ).view.loc (c : Thread nD τ) ↦[(sbBlk j.succ).view.set]{fullShare} sendA m c : sProp 𝕄)
      ⊢ (Rd m).payload ((c : Thread nD τ), SemLoc.dma (dsm 0 j)) 0 0 := by
  have h : (Rd m).payload ((c : Thread nD τ), SemLoc.dma (dsm 0 j)) 0 0 = _ := payload_x m c 0 j 0
  rw [h, sb_set]; exact BI.Entails.refl _
theorem blk_pay_in (c : Dev nD) (j : Fin 31) (fd : Vec F S256x512 .bf16) :
    ((rbBlk j.succ).view.loc (nb c j : Thread nD τ) ↦[(rbBlk j.succ).view.set]{fullShare}
        ((rbBlk j.succ).view.write (Elt F) fd ((sbBlk j.succ).view.read (Elt F) (sendA m c)) Finset.univ) : sProp 𝕄)
      ⊢ (Rd m).payload ((nb c j : Thread nD τ), SemLoc.dma (dsm 1 j)) 0 0 := by
  have h : (Rd m).payload ((nb c j : Thread nD τ), SemLoc.dma (dsm 1 j)) 0 0 = rbP (nb c j) j.succ (recvA m (nb c j)) := payload_x m (nb c j) 1 j 0
  rw [h, rb_set]
  refine Entails.of_eq (pointsTo_congr fun i hi => ?_)
  rw [blk_landed j.succ fd (sendA m c) i hi]
  have hb : (⟨(i 0).val / 8, by have h : (i 0).val < 256 := (i 0).isLt; omega⟩ : Fin 32) = j.succ := Fin.ext (mem_blkS.mp hi)
  show sendA m c i = sendA m (bef (nb c j) _) i
  rw [hb, bef_nb]

theorem hNb (j : Fin 31) : (rbBlk j.succ).view.amount (SemLoc.dma (dsm 1 j)) = Nq 1 := (credit_rb j.succ).trans Nq_1.symm

theorem wp_blk {α : Type} (c n : Dev nD) (j : Fin 31) (hn : n = nb c j) {hsc : (rbBlk j.succ : Memref sig (Dev.tc n : Thread nD τ).2.kind .vmem S8x512 .bf16).view.ref.isScScratch = false}
    {hsrc : (sbBlk j.succ).view.WordExact} {hdst : (rbBlk j.succ).view.WordExact}
    {hsem : DmaTarget.Typed .vmem (.dma (dsm 1 j)) (.remote (Dev.tc n : Thread nD τ) (rbBlk j.succ) (.dma (dsm 0 j)) hsc)}
    (O O' : CellTallies nD τ sig Unit) (hO : O = O' + tallyAt (xCell 1 j (nb c j)) () (Nq 1))
    (Q : α → sProp 𝕄) (k : PUnit → P F α) :
    iprop(recs m K ∗ owesS c O ∗ blkΦ m c j) ⊢ iprop(((owesS c O' ∗ credX 0 c j) -∗ WP c (k ⟨⟩) Q)
      -∗ WP c (.op (.enqueueDma (sbBlk j.succ) (.remote (Dev.tc n : Thread nD τ) (rbBlk j.succ) (.dma (dsm 0 j)) hsc) (.dma (dsm 1 j)) hsrc hdst hsem) k) Q) := by
  subst hn
  have hd0 : (0 : Fin 31) ∈ (Rd m).duties ((c : Thread nD τ), SemLoc.dma (dsm 0 j)) 0 := by
    have h := duties_x m c 0 j; exact h ▸ Finset.mem_singleton_self _
  have hd1 : (0 : Fin 31) ∈ (Rd m).duties ((nb c j : Thread nD τ), SemLoc.dma (dsm 1 j)) 0 := by
    have h := duties_x m (nb c j) 1 j; exact h ▸ Finset.mem_singleton_self _
  have ha0 : (Rd m).amount ((c : Thread nD τ), SemLoc.dma (dsm 0 j)) 0 0 = Nq 1 := amount_x m c 0 j 0
  have ha1 : (Rd m).amount ((nb c j : Thread nD τ), SemLoc.dma (dsm 1 j)) 0 0 = Nq 1 := amount_x m (nb c j) 1 j 0
  have hr : τ.routes (c : Thread nD τ) (nb c j : Thread nD τ) = true := by routes
  unfold owesS blkΦ sbP rbP WP credX
  iintro ⟨#HR, ⟨%W, HO⟩, Hs, ⟨%fd, Hd⟩, Ht0, Ht1⟩ Hk
  have hS := Rounds.wp_send_pointsTo (defs := defs₀ (F := F)) (Γ := ∅) (hsc := hsc) (hsrc := hsrc) (hdst := hdst) (hsem := hsem) (k := k) (Q := Q) 𝒱₀ ER (Rd m) (c : Thread nD τ) none
    (κ₁ := K (c, some (0, j))) (κ₂ := K (nb c j, some (1, j))) (r₁ := 0) (r₂ := 0) (d₁ := 0) (d₂ := 0) (fs := sendA m c) (fd := fd) (q := fullShare)
    hd0 hd1 () () (Nq 1) (hNb j) ha0 ha1 O' hO (W := W) (Es := Set.univ) (blk_pay_out m c j) (blk_pay_in m c j fd) hr
  iapply hS $$ [Hs Hd HO Ht0 Ht1]
  · isplitr; · iapply (recs_inv m K c (some (0, j))); iexact HR
    isplitr; · iapply (recs_inv m K (nb c j) (some (1, j))); iexact HR
    isplitl [Hs]; · rw [sb_set]; iexact Hs
    isplitl [Hd]; · rw [rb_set]; iexact Hd
    isplitl [HO]; · iexact HO
    isplitl [Ht0]; · iexact Ht0
    isplitr; · iapply (recs_reached m K c (some (0, j))); iexact HR
    isplitl [Ht1]; · iexact Ht1
    iapply (recs_reached m K (nb c j) (some (1, j))); iexact HR
  iintro ⟨Hc, HO⟩
  iapply Hk
  isplitl [HO]; · iexists W; iexact HO
  iexact Hc

theorem blk_step {α : Type} (c : Dev nD) (j : Fin 31) (O O' : CellTallies nD τ sig Unit) (hO : O = O' + tallyAt (xCell 1 j (nb c j)) () (Nq 1))
    (Q : α → sProp 𝕄) (k : PUnit → P F α) :
    iprop(recs m K ∗ owesS c O ∗ blkΦ m c j) ⊢ iprop(((owesS c O' ∗ credX 0 c j) -∗ WP c (k ⟨⟩) Q) -∗ WP c (blkStep c j >>= k) Q) := by
  unfold blkStep
  simp only [Prog.lift, Prog.bind_op, Prog.bind_ret, Prog.pure_eq_ret]
  exact wp_blk m K c _ j (blkDev_eq c j) O O' hO Q k

/-- The `j`-th send of the finished chunk takes one read share of it, the place at the `j`-th peer, and the two duties. -/
def rowΦ (c : Dev nD) (j : Fin 31) : sProp 𝕄 :=
  iprop(bcP c c (tk j) (rowsA m) ∗ (∃ f, bcP (F := F) (nb c j) c fullShare f) ∗ dutyTok ER (xCell 2 j c) 0 0 ∗ dutyTok ER (xCell 3 j (nb c j)) 0 0)

theorem row_pay_out (c : Dev nD) (j : Fin 31) :
    ((bcOwn c).view.loc (c : Thread nD τ) ↦[(bcOwn c).view.set]{tk j} rowsA m : sProp 𝕄)
      ⊢ (Rd m).payload ((c : Thread nD τ), SemLoc.dma (dsm 2 j)) 0 0 := by
  have h : (Rd m).payload ((c : Thread nD τ), SemLoc.dma (dsm 2 j)) 0 0 = _ := payload_x m c 2 j 0
  rw [h, own_set]; exact BI.Entails.refl _
theorem row_pay_in (c : Dev nD) (j : Fin 31) (fd : Vec F S1024x512 .bf16) :
    ((bcOwn c).view.loc (nb c j : Thread nD τ) ↦[(bcOwn c).view.set]{fullShare}
        ((bcOwn c).view.write (Elt F) fd ((bcOwn c).view.read (Elt F) (rowsA m)) Finset.univ) : sProp 𝕄)
      ⊢ (Rd m).payload ((nb c j : Thread nD τ), SemLoc.dma (dsm 3 j)) 0 0 := by
  have h : (Rd m).payload ((nb c j : Thread nD τ), SemLoc.dma (dsm 3 j)) 0 0 = bcP (nb c j) (prv (nb c j) j) fullShare (rowsA m) := payload_x m (nb c j) 3 j 0
  rw [h, own_set, prv_nb]
  exact Entails.of_eq (pointsTo_congr fun i hi => row_landed c fd (rowsA m) i hi)

theorem hNr (c : Dev nD) (j : Fin 31) : (bcOwn c).view.amount (SemLoc.dma (dsm 3 j)) = Nq 3 := (credit_own c).trans Nq_3.symm

theorem wp_row {α : Type} (c n : Dev nD) (j : Fin 31) (hn : n = nb c j) {hsc : (bcOwn c : Memref sig (Dev.tc n : Thread nD τ).2.kind .vmem S32x512 .bf16).view.ref.isScScratch = false}
    {hsrc : (bcOwn c).view.WordExact} {hdst : (bcOwn c).view.WordExact}
    {hsem : DmaTarget.Typed .vmem (.dma (dsm 3 j)) (.remote (Dev.tc n : Thread nD τ) (bcOwn c) (.dma (dsm 2 j)) hsc)}
    (O O' : CellTallies nD τ sig Unit) (hO : O = O' + tallyAt (xCell 3 j (nb c j)) () (Nq 3))
    (Q : α → sProp 𝕄) (k : PUnit → P F α) :
    iprop(recs m K ∗ owesS c O ∗ rowΦ m c j) ⊢ iprop(((owesS c O' ∗ credX 2 c j) -∗ WP c (k ⟨⟩) Q)
      -∗ WP c (.op (.enqueueDma (bcOwn c) (.remote (Dev.tc n : Thread nD τ) (bcOwn c) (.dma (dsm 2 j)) hsc) (.dma (dsm 3 j)) hsrc hdst hsem) k) Q) := by
  subst hn
  have hd0 : (0 : Fin 31) ∈ (Rd m).duties ((c : Thread nD τ), SemLoc.dma (dsm 2 j)) 0 := by
    have h := duties_x m c 2 j; exact h ▸ Finset.mem_singleton_self _
  have hd1 : (0 : Fin 31) ∈ (Rd m).duties ((nb c j : Thread nD τ), SemLoc.dma (dsm 3 j)) 0 := by
    have h := duties_x m (nb c j) 3 j; exact h ▸ Finset.mem_singleton_self _
  have ha0 : (Rd m).amount ((c : Thread nD τ), SemLoc.dma (dsm 2 j)) 0 0 = Nq 3 := amount_x m c 2 j 0
  have ha1 : (Rd m).amount ((nb c j : Thread nD τ), SemLoc.dma (dsm 3 j)) 0 0 = Nq 3 := amount_x m (nb c j) 3 j 0
  have hr : τ.routes (c : Thread nD τ) (nb c j : Thread nD τ) = true := by routes
  unfold owesS rowΦ bcP WP credX
  iintro ⟨#HR, ⟨%W, HO⟩, Hs, ⟨%fd, Hd⟩, Ht0, Ht1⟩ Hk
  have hS := Rounds.wp_send_pointsTo (defs := defs₀ (F := F)) (Γ := ∅) (hsc := hsc) (hsrc := hsrc) (hdst := hdst) (hsem := hsem) (k := k) (Q := Q) 𝒱₀ ER (Rd m) (c : Thread nD τ) none
    (κ₁ := K (c, some (2, j))) (κ₂ := K (nb c j, some (3, j))) (r₁ := 0) (r₂ := 0) (d₁ := 0) (d₂ := 0) (fs := rowsA m) (fd := fd) (q := tk j)
    hd0 hd1 () () (Nq 3) (hNr c j) ha0 ha1 O' hO (W := W) (Es := Set.univ) (row_pay_out m c j) (row_pay_in m c j fd) hr
  iapply hS $$ [Hs Hd HO Ht0 Ht1]
  · isplitr; · iapply (recs_inv m K c (some (2, j))); iexact HR
    isplitr; · iapply (recs_inv m K (nb c j) (some (3, j))); iexact HR
    isplitl [Hs]; · rw [own_set]; iexact Hs
    isplitl [Hd]; · rw [own_set]; iexact Hd
    isplitl [HO]; · iexact HO
    isplitl [Ht0]; · iexact Ht0
    isplitr; · iapply (recs_reached m K c (some (2, j))); iexact HR
    isplitl [Ht1]; · iexact Ht1
    iapply (recs_reached m K (nb c j) (some (3, j))); iexact HR
  iintro ⟨Hc, HO⟩
  iapply Hk
  isplitl [HO]; · iexists W; iexact HO
  iexact Hc

theorem row_step {α : Type} (c : Dev nD) (j : Fin 31) (O O' : CellTallies nD τ sig Unit) (hO : O = O' + tallyAt (xCell 3 j (nb c j)) () (Nq 3))
    (Q : α → sProp 𝕄) (k : PUnit → P F α) :
    iprop(recs m K ∗ owesS c O ∗ rowΦ m c j) ⊢ iprop(((owesS c O' ∗ credX 2 c j) -∗ WP c (k ⟨⟩) Q) -∗ WP c (rowStep c j >>= k) Q) := by
  unfold rowStep
  simp only [Prog.lift, Prog.bind_op, Prog.bind_ret, Prog.pure_eq_ret]
  exact wp_row m K c _ j (rowDev_eq c j) O O' hO Q k

end Cert.Moe

end
-- ==== Proof.Waits.lean ====
/-
# The waits
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The waits -/

/-- A transfer cell not yet waited on: its credit and its position; -/
def waitΦ (q : Fin 4) (c : Dev nD) (j : Fin 31) : sProp 𝕄 := iprop(credX q c j ∗ atPos ER (xCell q j c) 0 ∅ 0)
/-- waited on, and closed: its counter at zero, and what its duty hands over. -/
def waitΨ (q : Fin 4) (c : Dev nD) (j : Fin 31) : sProp 𝕄 := iprop(semVal (xCell q j c) 0 ∗ xPay m c q j)

/-- A wait on a transfer cell, whichever operation it is. -/
theorem wp_wait_x {α : Type} (q : Fin 4) (c : Dev nD) (j : Fin 31) (O : CellTallies nD τ sig Unit)
    (hmay : (levAts L lv : sProp 𝕄) ⊢ MayWait (c : Thread nD τ) (ksem (some (q, j))) () O)
    {w : TpuEff nD τ sig (Elt F) Λ₀ .tc PUnit} (hw : ∀ K : PUnit → sProp 𝕄, wpE (defs₀ (F := F)) 𝒱₀ (c : Thread nD τ) none Set.univ w K = waitSpec (c : Thread nD τ) Set.univ (ksem (some (q, j))) (Nq q) K)
    (Q : α → sProp 𝕄) (k : PUnit → P F α) :
    iprop(recs m K ∗ owesS c O ∗ waitΦ q c j) ⊢ iprop(((owesS c O ∗ waitΨ m q c j) -∗ WP c (k ⟨⟩) Q) -∗ WP c (.op w k) Q) := by
  unfold owesS waitΦ waitΨ credX WP
  have hm : recs (F := F) m K ⊢ MayWait (c : Thread nD τ) (ksem (some (q, j))) () O := by
    have h1 := @recs_lev F _ m K
    exact h1.trans hmay
  iintro ⟨#HR, ⟨%W, HO⟩, Hc, Hat⟩ Hk
  iapply (Rounds.wp_wait_rest_token 𝒱₀ ER (Rd m) (c : Thread nD τ) none (κ := K (c, some (q, j))) (sm := ksem (some (q, j)))
      hw (Set.mem_univ _) () (O := O) (W := W) (R := 0) (m := 0) (T := ∅)
      (by rw [Nat.zero_add]; exact (expect_x m c q j).symm)) $$ [Hc HO Hat]
  · isplitr; · iapply (recs_inv m K c (some (q, j))); iexact HR
    isplitl [Hc]; · iexact Hc
    isplitl [HO]; · iexact HO
    isplitr; · iapply hm; iexact HR
    iexact Hat
  iintro ⟨HO, Hat, -, Hpay⟩
  ihave Hp := (Entails.of_eq (rest_x m c q j)) $$ Hpay
  imod (Rounds.cell_close ER (Rd m) (Set.mem_univ (K (c, some (q, j)))) (fun h => h) (R := 0 + 1) (duties_later m (xCell q j c))) $$ [Hat] with Hz
  · isplitr; · iapply (recs_inv m K c (some (q, j))); iexact HR
    iexact Hat
  iapply Hk
  isplitl [HO]; · iexists _; iexact HO
  isplitl [Hz]; · iexact Hz
  iexact Hp

theorem mayWait_none (c : Dev nD) (sm : SemLoc sig) : (levAts L lv : sProp 𝕄) ⊢ MayWait (c : Thread nD τ) sm () 0 := by
  rw [MayWait_zero]; iintro -; iempintro

theorem blkWait_step {α : Type} (c : Dev nD) (j : Fin 31) (Q : α → sProp 𝕄) (k : PUnit → P F α) :
    iprop(recs m K ∗ owesS c (oRow c 0) ∗ waitΦ 1 c j) ⊢ iprop(((owesS c (oRow c 0) ∗ waitΨ m 1 c j) -∗ WP c (k ⟨⟩) Q) -∗ WP c (blkWait j >>= k) Q) := by
  unfold blkWait
  simp only [Prog.lift, Prog.bind_op, Prog.bind_ret, Prog.pure_eq_ret]
  refine wp_wait_x m K 1 c j _ (mayWait_blk c j) (fun K' => ?_) Q k
  rw [Nq_1]; exact wpE_waitDma2_eq 𝒱₀ (c : Thread nD τ) none Set.univ K'

theorem rowWait_step {α : Type} (c : Dev nD) (j : Fin 31) (Q : α → sProp 𝕄) (k : PUnit → P F α) :
    iprop(recs m K ∗ owesS c 0 ∗ waitΦ 3 c j) ⊢ iprop(((owesS c 0 ∗ waitΨ m 3 c j) -∗ WP c (k ⟨⟩) Q) -∗ WP c (rowWait c j >>= k) Q) := by
  unfold rowWait
  simp only [Prog.lift, Prog.bind_op, Prog.bind_ret, Prog.pure_eq_ret]
  refine wp_wait_x m K 3 c j _ (mayWait_none c _) (fun K' => ?_) Q k
  rw [Nq_3]; exact wpE_waitDma2_eq 𝒱₀ (c : Thread nD τ) none Set.univ K'

theorem outWait_step {α : Type} (c : Dev nD) (j : Fin 31) (Q : α → sProp 𝕄) (k : PUnit → P F α) :
    iprop(recs m K ∗ owesS c 0 ∗ (waitΦ 0 c j ∗ waitΦ 2 c j))
      ⊢ iprop(((owesS c 0 ∗ (waitΨ m 0 c j ∗ waitΨ m 2 c j)) -∗ WP c (k ⟨⟩) Q) -∗ WP c (outWait c j >>= k) Q) := by
  unfold outWait
  simp only [Prog.lift, Prog.bind_op, Prog.bind_ret, Prog.pure_eq_ret]
  iintro ⟨#HR, HO, H0, H2⟩ Hk
  iapply (wp_wait_x m K 0 c j 0 (mayWait_none c _) (fun K' => by rw [Nq_0]; exact wpE_waitDma2_eq 𝒱₀ (c : Thread nD τ) none Set.univ K') Q) $$ [HO H0]
  · isplitr; · iexact HR
    isplitl [HO] <;> iassumption
  iintro ⟨HO, H0⟩
  iapply (wp_wait_x m K 2 c j 0 (mayWait_none c _) (fun K' => by rw [Nq_2]; exact wpE_waitDma2_eq 𝒱₀ (c : Thread nD τ) none Set.univ K') Q) $$ [HO H2]
  · isplitr; · iexact HR
    isplitl [HO] <;> iassumption
  iintro ⟨HO, H2⟩
  iapply Hk
  isplitl [HO]; · iexact HO
  isplitl [H0] <;> iassumption

/-- The wait for 31 on the barrier cell: every peer's two places. -/
theorem bar_wait {α : Type} (c : Dev nD) (Q : α → sProp 𝕄) (k : PUnit → P F α) :
    iprop(recs m K ∗ owesS c (oRow c 0 + oBlk c 0) ∗ (cred (tallyAt (barCell c) () 31) ∗ atPos ER (barCell c) 0 ∅ 0))
      ⊢ iprop(((owesS c (oRow c 0 + oBlk c 0) ∗ semVal (barCell c) 0 ∗ bigSep Finset.univ fun j => barPay (F := F) c j) -∗ WP c (k ⟨⟩) Q)
        -∗ WP c (semWaitWord barS 31#32 >>= k) Q) := by
  unfold owesS WP
  simp only [semWaitWord, Prog.lift, Prog.bind_op, Prog.bind_ret, Prog.pure_eq_ret]
  have hm : recs (F := F) m K ⊢ MayWait (c : Thread nD τ) (ksem none) () (oRow c 0 + oBlk c 0) := by
    have h1 := @recs_lev F _ m K
    exact h1.trans (mayWait_bar c)
  iintro ⟨#HR, ⟨%W, HO⟩, Hc, Hat⟩ Hk
  iapply (Rounds.wp_wait_rest_token 𝒱₀ ER (Rd m) (c : Thread nD τ) none (κ := K (c, none)) (sm := ksem none)
      (fun K' => wpE_semWait_eq 𝒱₀ (c : Thread nD τ) none Set.univ K') (Set.mem_univ _) () (O := oRow c 0 + oBlk c 0) (W := W) (R := 0) (m := 0) (T := ∅)
      (by rw [Nat.zero_add]; exact (show (31#32).toNat = 31 by decide).trans (expect_bar m c).symm)) $$ [Hc HO Hat]
  · isplitr; · iapply (recs_inv m K c none); iexact HR
    isplitl [Hc]; · iexact Hc
    isplitl [HO]; · iexact HO
    isplitr; · iapply hm; iexact HR
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (recs_inv m K c none); iexact HR
    iexact Hat
  iapply Hk
  isplitl [HO]; · iexists _; iexact HO
  isplitl [Hz]; · iexact Hz
  iexact Hp

end Cert.Moe

end
-- ==== Proof.Pieces.lean ====
/-
# The buffers in pieces, and what the local loads and stores do

Splitting and joining the buffers and the families of tokens between the phases of the body; what each load of a whole
buffer or a chunk reads, and what each store leaves.
-/
module

public import proofs.«01_k».proof.Proof.Sends
public import proofs.«01_k».proof.Proof.Waits

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## Splitting a family -/

omit [FloatOps F] in
theorem bigSep_zero_succ (Φ : Fin 32 → sProp 𝕄) : bigSep Finset.univ Φ = iprop(Φ 0 ∗ bigSep Finset.univ fun j : Fin 31 => Φ j.succ) := by
  have e : (Finset.univ : Finset (Fin 32)).erase 0 = Finset.univ.map (Fin.succEmb 31) := by decide
  have h : bigSep Finset.univ Φ = iprop(Φ 0 ∗ bigSep (Finset.univ.erase 0) Φ) := bigSep_univ_split 0
  rw [h, e, bigSep_map]; rfl
omit [FloatOps F] in
theorem bigSep_peers (c : Dev nD) (Φ : Dev nD → sProp 𝕄) : bigSep Finset.univ Φ = iprop(Φ c ∗ bigSep Finset.univ fun j : Fin 31 => Φ (nb c j)) := by
  have e : (Finset.univ : Finset (Dev nD)).erase c = Finset.univ.map ⟨nb c, fun _ _ h => nb_inj c h⟩ := by
    ext d
    simp only [Finset.mem_erase, Finset.mem_univ, and_true, Finset.mem_map, true_and, Function.Embedding.coeFn_mk]
    exact ⟨exists_nb c d, fun ⟨j, h⟩ => h ▸ nb_ne c j⟩
  have h : bigSep Finset.univ Φ = iprop(Φ c ∗ bigSep (Finset.univ.erase c) Φ) := bigSep_univ_split c
  rw [h, e, bigSep_map]; rfl
omit [FloatOps F] in
theorem bigSep_rev (Φ : Fin 31 → sProp 𝕄) : bigSep Finset.univ Φ = bigSep Finset.univ fun j => Φ (rev j) :=
  bigSep_univ_equiv revE Φ

omit [FloatOps F] in
theorem sb_split (c : Dev nD) (f : Vec F S256x512 .bf16) :
    (sbLoc c ↦{fullShare} f : sProp 𝕄) = iprop(sbP c 0 f ∗ bigSep Finset.univ fun j : Fin 31 => sbP c j.succ f) := by
  rw [← bigSep_zero_succ (fun b => sbP c b f)]
  unfold sbP
  rw [← pointsTo_biUnion _ _ blkS_disj, blkS_union]
omit [FloatOps F] in
theorem rb_split (c : Dev nD) (f : Vec F S256x512 .bf16) :
    (rbLoc c ↦{fullShare} f : sProp 𝕄) = iprop(rbP c 0 f ∗ bigSep Finset.univ fun j : Fin 31 => rbP c j.succ f) := by
  rw [← bigSep_zero_succ (fun b => rbP c b f)]
  unfold rbP
  rw [← pointsTo_biUnion _ _ blkS_disj, blkS_union]
omit [FloatOps F] in
theorem bc_split (c : Dev nD) (q : PosShare TreeShare) (f : Vec F S1024x512 .bf16) :
    (bcLoc c ↦{q} f : sProp 𝕄) = iprop(bcP c c q f ∗ bigSep Finset.univ fun j : Fin 31 => bcP c (nb c j) q f) := by
  rw [← bigSep_peers c (fun d => bcP c d q f)]
  unfold bcP
  rw [← pointsTo_biUnion _ _ rowS_disj, rowS_union]
omit [FloatOps F] in
theorem bcP_deal (c d : Dev nD) (f : Vec F S1024x512 .bf16) :
    (bcP c d fullShare f : sProp 𝕄) ⊢ iprop(bcP c d rest31 f ∗ bigSep Finset.univ fun j : Fin 31 => bcP c d (tk j) f) := by
  unfold bcP; exact Transfers.pointsTo_toks_split fullShare 31
omit [FloatOps F] in
theorem bcP_undeal (c d : Dev nD) (f : Vec F S1024x512 .bf16) :
    iprop(bcP c d rest31 f ∗ bigSep Finset.univ fun j : Fin 31 => bcP c d (tk j) f) ⊢ (bcP c d fullShare f : sProp 𝕄) := by
  unfold bcP; exact Transfers.pointsTo_toks_join fullShare 31

/-! ## Between the phases -/

omit [FloatOps F] in
theorem rbP_some (c : Dev nD) (b : Fin 32) (f : Vec F S256x512 .bf16) : (rbP c b f : sProp 𝕄) ⊢ iprop(∃ f, rbP (F := F) c b f) := by
  iintro H; iexists f; iexact H
omit [FloatOps F] in
theorem bcP_some (c d : Dev nD) (q : PosShare TreeShare) (f : Vec F S1024x512 .bf16) : (bcP c d q f : sProp 𝕄) ⊢ iprop(∃ f, bcP (F := F) c d q f) := by
  iintro H; iexists f; iexact H

theorem sig_intro (c : Dev nD) (f : Vec F S256x512 .bf16) (g : Vec F S1024x512 .bf16) :
    iprop((rbLoc c ↦{fullShare} f) ∗ (bcLoc c ↦{fullShare} g) ∗ bigSep Finset.univ fun j => dutyTok ER (barCell (nb c j)) 0 (rev j))
      ⊢ (iprop(rbP c 0 f ∗ bcP c c fullShare g ∗ bigSep Finset.univ fun j => sigΦ (F := F) c j) : sProp 𝕄) := by
  rw [rb_split, bc_split, bigSep_rev (fun j : Fin 31 => rbP (F := F) c j.succ f)]
  unfold sigΦ
  iintro ⟨⟨H0, Hr⟩, ⟨Hc, Hb⟩, Ht⟩
  isplitl [H0]; · iexact H0
  isplitl [Hc]; · iexact Hc
  rw [bigSep_sep', bigSep_sep']
  isplitl [Ht]; · iexact Ht
  have h1 : (bigSep Finset.univ fun j : Fin 31 => rbP (F := F) c (rev j).succ f) ⊢ bigSep Finset.univ fun j : Fin 31 => iprop(∃ f, rbP (F := F) c (rev j).succ f) :=
    bigSep_mono fun j _ => rbP_some c _ f
  have h2 : (bigSep Finset.univ fun j : Fin 31 => bcP (F := F) c (nb c j) fullShare g) ⊢ bigSep Finset.univ fun j : Fin 31 => iprop(∃ f, bcP (F := F) c (nb c j) fullShare f) :=
    bigSep_mono fun j _ => bcP_some c _ _ g
  isplitl [Hr]
  · iapply h1; iexact Hr
  · iapply h2; iexact Hb

theorem blk_intro (c : Dev nD) :
    iprop((bigSep Finset.univ fun j : Fin 31 => sbP c j.succ (sendA m c)) ∗ (bigSep Finset.univ fun j => barPay (F := F) c j)
      ∗ (bigSep Finset.univ fun j => dutyTok ER (xCell 0 j c) 0 0) ∗ (bigSep Finset.univ fun j => dutyTok ER (xCell 1 j (nb c j)) 0 0))
      ⊢ (iprop((bigSep Finset.univ fun j => blkΦ m c j) ∗ bigSep Finset.univ fun j : Fin 31 => iprop(∃ f, bcP (F := F) (nb c j) c fullShare f)) : sProp 𝕄) := by
  unfold barPay blkΦ
  simp only [bigSep_sep']
  iintro ⟨H1, ⟨H2, H3⟩, H4, H5⟩
  isplitl [H1 H2 H4 H5]
  · isplitl [H1]; · iexact H1
    isplitl [H2]; · iexact H2
    isplitl [H4] <;> iassumption
  iexact H3

theorem row_intro (c : Dev nD) :
    iprop(bcP c c fullShare (rowsA m) ∗ (bigSep Finset.univ fun j : Fin 31 => iprop(∃ f, bcP (F := F) (nb c j) c fullShare f))
      ∗ (bigSep Finset.univ fun j => dutyTok ER (xCell 2 j c) 0 0) ∗ (bigSep Finset.univ fun j => dutyTok ER (xCell 3 j (nb c j)) 0 0))
      ⊢ (iprop(bcP c c rest31 (rowsA m) ∗ bigSep Finset.univ fun j => rowΦ m c j) : sProp 𝕄) := by
  unfold rowΦ
  simp only [bigSep_sep']
  iintro ⟨H1, H2, H4, H5⟩
  ihave H := (bcP_deal c c (rowsA m)) $$ H1
  icases H with ⟨Hr, Ht⟩
  isplitl [Hr]; · iexact Hr
  isplitl [Ht]; · iexact Ht
  isplitl [H2]; · iexact H2
  isplitl [H4] <;> iassumption

/-- All blocks in: the buffer of received blocks whole. -/
theorem rb_whole (c : Dev nD) :
    iprop(rbP c 0 (recvA m c) ∗ bigSep Finset.univ fun j => waitΨ m 1 c j)
      ⊢ (iprop((bigSep Finset.univ fun j => semVal (xCell 1 j c) 0) ∗ (rbLoc c ↦{fullShare} recvA m c)) : sProp 𝕄) := by
  unfold waitΨ
  rw [bigSep_sep', rb_split]
  iintro ⟨H0, Hz, Hp⟩
  isplitl [Hz]; · iexact Hz
  isplitl [H0]; · iexact H0
  iexact Hp

/-- All chunks in: the buffer of finished rows whole, at the share left; the rest of the shares for later. -/
theorem bc_whole (c : Dev nD) :
    iprop(bcP c c rest31 (rowsA m) ∗ bigSep Finset.univ fun j => waitΨ m 3 c j)
      ⊢ (iprop((bigSep Finset.univ fun j => semVal (xCell 3 j c) 0) ∗ (bcLoc c ↦{rest31} rowsA m)
        ∗ bigSep Finset.univ fun j : Fin 31 => bigSep Finset.univ fun i : Fin 31 => bcP c (nb c j) (tk i) (rowsA m)) : sProp 𝕄) := by
  have h3 : (bigSep Finset.univ fun j : Fin 31 => xPay m c 3 j) = bigSep Finset.univ fun j : Fin 31 => bcP c (nb c j) fullShare (rowsA m) := by
    rw [bigSep_rev (fun j : Fin 31 => bcP c (nb c j) fullShare (rowsA m))]
    exact bigSep_congr fun j _ => by rw [← prv_eq_nb]; rfl
  have hd : (bigSep Finset.univ fun j : Fin 31 => bcP c (nb c j) fullShare (rowsA m))
      ⊢ bigSep Finset.univ fun j : Fin 31 => iprop(bcP c (nb c j) rest31 (rowsA m) ∗ bigSep Finset.univ fun i : Fin 31 => bcP c (nb c j) (tk i) (rowsA m)) :=
    bigSep_mono fun j _ => bcP_deal c (nb c j) (rowsA m)
  rw [bigSep_sep'] at hd
  unfold waitΨ
  rw [bigSep_sep', h3, bc_split]
  iintro ⟨H0, Hz, Hp⟩
  ihave H := hd $$ Hp
  icases H with ⟨Ha, Hb⟩
  isplitl [Hz]; · iexact Hz
  isplitl [H0 Ha]
  · isplitl [H0]; · iexact H0
    iexact Ha
  iexact Hb

/-- The device's own sends done: both of its send buffers whole again. -/
theorem out_whole (c : Dev nD) :
    iprop(sbP c 0 (sendA m c) ∗ (bcLoc c ↦{rest31} rowsA m)
        ∗ (bigSep Finset.univ fun j : Fin 31 => bigSep Finset.univ fun i : Fin 31 => bcP c (nb c j) (tk i) (rowsA m))
        ∗ bigSep Finset.univ fun j => iprop(waitΨ m 0 c j ∗ waitΨ m 2 c j))
      ⊢ (iprop((bigSep Finset.univ fun j => semVal (xCell 0 j c) 0) ∗ (bigSep Finset.univ fun j => semVal (xCell 2 j c) 0)
        ∗ (sbLoc c ↦{fullShare} sendA m c) ∗ (bcLoc c ↦{fullShare} rowsA m)) : sProp 𝕄) := by
  have hd : (bigSep Finset.univ fun j : Fin 31 => iprop(bcP c (nb c j) rest31 (rowsA m) ∗ bigSep Finset.univ fun i : Fin 31 => bcP c (nb c j) (tk i) (rowsA m)))
      ⊢ bigSep Finset.univ fun j : Fin 31 => bcP c (nb c j) fullShare (rowsA m) :=
    bigSep_mono fun j _ => bcP_undeal c (nb c j) (rowsA m)
  rw [bigSep_sep'] at hd
  unfold waitΨ
  simp only [bigSep_sep']
  rw [sb_split, bc_split, bc_split]
  iintro ⟨H0, ⟨Hr, Hrs⟩, Hts, ⟨Hz0, Hp0⟩, Hz2, Hp2⟩
  isplitl [Hz0]; · iexact Hz0
  isplitl [Hz2]; · iexact Hz2
  isplitl [H0 Hp0]
  · isplitl [H0]; · iexact H0
    iexact Hp0
  isplitl [Hr Hp2]
  · iapply (bcP_undeal c c (rowsA m))
    isplitl [Hr]; · iexact Hr
    iexact Hp2
  iapply hd
  isplitl [Hrs] <;> iassumption

/-! ## What the loads read and the stores leave -/

omit [FloatOps F] in
theorem hz2 : (![0, 0] : Fin 2 → Nat) = fun _ => 0 := funext fun a => by fin_cases a <;> rfl
omit [FloatOps F] in
theorem read_x (f : Vec F S1024x256 .f32) : (xM : Memref sig .tc .vmem S1024x256 .f32).view.readAt (Elt F) rX.toLoadRect f = f :=
  Memref.readAt_unit_zero (Elt F) cc0_stg0_0 hz2 _ f
omit [FloatOps F] in
theorem read_rw (f : Vec F S256x128 .f32) : (rwM : Memref sig .tc .vmem S256x128 .f32).view.readAt (Elt F) rRw.toLoadRect f = f :=
  Memref.readAt_unit_zero (Elt F) cc0_stg1_0 hz2 _ f
omit [FloatOps F] in
theorem read_ix (f : Vec F S1024x1 .i32) : (ixM : Memref sig .tc .vmem S1024x1 .i32).view.readAt (Elt F) rIx.toLoadRect f = f :=
  Memref.readAt_unit_zero (Elt F) cc0_stg2_0 hz2 _ f
omit [FloatOps F] in
theorem read_sw (f : Vec F S256x512 .f32) : (swM : Memref sig .tc .vmem S256x512 .f32).view.readAt (Elt F) rSb.toLoadRect f = f :=
  Memref.readAt_unit_zero (Elt F) cc0_stg4_0 hz2 _ f
omit [FloatOps F] in
theorem read_rb (f : Vec F S256x512 .bf16) : (rbM : Memref sig .tc .vmem S256x512 .bf16).view.readAt (Elt F) rSb.toLoadRect f = f :=
  Memref.readAt_unit_zero (Elt F) cc0_scratch1 hz2 _ f
omit [FloatOps F] in
theorem read_bc (f : Vec F S1024x512 .bf16) : (bcM : Memref sig .tc .vmem S1024x512 .bf16).view.readAt (Elt F) rOut.toLoadRect f = f :=
  Memref.readAt_unit_zero (Elt F) cc0_scratch2 hz2 _ f
omit [FloatOps F] in
theorem write_sb (f w : Vec F S256x512 .bf16) :
    ((sbM : Memref sig .tc .vmem S256x512 .bf16).access rSb : View sig .tc _ _ _).write (Elt F) f w Finset.univ = w :=
  Memref.write_access_unit_zero_univ (Elt F) cc0_scratch0 hz2 _ f w
omit [FloatOps F] in
theorem write_out (f w : Vec F S1024x512 .f32) :
    ((outM : Memref sig .tc .vmem S1024x512 .f32).access rOut : View sig .tc _ _ _).write (Elt F) f w Finset.univ = w :=
  Memref.write_access_unit_zero_univ (Elt F) cc0_stg5_0 hz2 _ f w

/-- The device's own block, copied over, is the block received from itself. -/
theorem write_rb0 (c : Dev nD) (f : Vec F S256x512 .bf16) (i : S256x512.Idx) (hi : i ∈ blkS 0) :
    ((rbM : Memref sig .tc .vmem S256x512 .bf16).access rB0 : View sig .tc _ _ _).write (Elt F) f
      (k0_pay29 ((sbM : Memref sig .tc .vmem S256x512 .bf16).view.readAt (Elt F) rB0.toLoadRect (sendA m c))) Finset.univ i = recvA m c i := by
  have hb : (⟨(i 0).val / 8, by have h : (i 0).val < 256 := (i 0).isLt; omega⟩ : Fin 32) = 0 := Fin.ext (mem_blkS.mp hi)
  have hr : recvA m c i = sendA m c i := by
    show sendA m (bef c _) i = _
    rw [hb, bef_zero]
  rw [hr]
  have h0 : (rbBlk 0).view.write (Elt F) f ((sbBlk 0).view.read (Elt F) (sendA m c)) Finset.univ i = sendA m c i := blk_landed 0 f (sendA m c) i hi
  refine Eq.trans ?_ h0
  have hp : ∀ v : Vec F S8x512 .bf16, k0_pay29 v = v := fun v => shapeCast_id v _
  rw [hp]
  rfl

/-- The device's own finished rows, stored, are its chunk of everyone's. -/
theorem write_bc (c : Dev nD) (f : Vec F S1024x512 .bf16) (i : S1024x512.Idx) (hi : i ∈ rowS c) :
    ((bcM : Memref sig .tc .vmem S1024x512 .bf16).access (rBc c) : View sig .tc _ _ _).write (Elt F) f (doneA m c) Finset.univ i = rowsA m i := by
  have hs : i ∈ ((bcM : Memref sig .tc .vmem S1024x512 .bf16).access (rBc c) : View sig .tc _ _ _).set := by
    have := View.set_slice_whole cc0_scratch2 (rBc c)
    rw [show ((bcM : Memref sig .tc .vmem S1024x512 .bf16).access (rBc c) : View sig .tc _ _ _).set = (rBc c).set from this]
    exact hi
  obtain ⟨x, -, rfl⟩ := Finset.mem_map.mp hs
  rw [View.write_emb_of_mem _ _ (Finset.mem_univ x)]
  have e0 : ((((bcM : Memref sig .tc .vmem S1024x512 .bf16).access (rBc c) : View sig .tc _ _ _).emb x : S1024x512.Idx) 0).val = 32 * c.val + (x 0).val := by
    show (k0_off4 c) 0 + 1 * (x 0).val = _
    rw [k0_off4_eq]; simp
  have e1 : ((((bcM : Memref sig .tc .vmem S1024x512 .bf16).access (rBc c) : View sig .tc _ _ _).emb x : S1024x512.Idx) 1).val = (x 1).val := by
    show (k0_off4 c) 1 + 1 * (x 1).val = _
    rw [k0_off4_eq]; simp
  have hx0 : (x 0).val < 32 := (x 0).isLt
  have ed : ∀ (d : Dev nD) (y : S32x512.Idx), d = c → y = x → doneA m c x = doneA m d y := by rintro _ _ rfl rfl; rfl
  refine ed _ _ (Fin.ext ?_) ?_
  · show _ / 32 = _
    rw [e0]; omega
  · refine Eq.trans (congrArg₂ ix2 (Fin.ext ?_) (Fin.ext ?_)) (eq_ix2 (n0 := 32) (n1 := 512) x).symm
    · show _ % 32 = _
      rw [e0]; omega
    · exact e1

/-- The tokens' table once both its columns are stored. -/
def metaA (c : Dev nD) (f : Vec F S1024x2 .f32) : Vec F S1024x2 .f32 :=
  ((mtM : Memref sig .tc .vmem S1024x2 .f32).access rM1 : View sig .tc _ _ _).write (Elt F)
    (((mtM : Memref sig .tc .vmem S1024x2 .f32).access rM0 : View sig .tc _ _ _).write (Elt F) f (ownF (ixA m c)) Finset.univ) (rankF' (ixA m c)) Finset.univ

theorem read_own (c : Dev nD) (f : Vec F S1024x2 .f32) :
    (mtM : Memref sig .tc .vmem S1024x2 .f32).view.readAt (Elt F) (rMo c).toLoadRect (metaA m c f) = fun i => ownF (ixA m c) (chunkRow c i) := by
  funext i
  have hi1 : (i 1).val < 1 := (i 1).isLt
  have e : ((rMo c).emb i : S1024x2.Idx) = rM0.emb (chunkRow c i) := by
    funext a
    apply Fin.ext
    fin_cases a
    · show (k0_off2 c) 0 + 1 * (i 0).val = 0 + 1 * (32 * c.val + (i 0).val)
      rw [k0_off2_eq]; simp
    · show (k0_off2 c) 1 + 1 * (i 1).val = 0 + 1 * 0
      rw [k0_off2_eq]; simp; omega
  show metaA m c f ((rMo c).emb i) = _
  rw [e]
  unfold metaA
  rw [View.write_of_not_mem]
  · exact View.write_emb_of_mem (Val := Elt F) (v := ((mtM : Memref sig .tc .vmem S1024x2 .f32).access rM0 : View sig .tc _ _ _)) f (ownF (ixA m c)) (Finset.mem_univ (chunkRow c i))
  · rw [View.setOn_univ]
    intro h
    rw [show ((mtM : Memref sig .tc .vmem S1024x2 .f32).access rM1 : View sig .tc _ _ _).set = rM1.set from View.set_slice_whole cc0_scratch3 rM1, Rect.mem_set_unit] at h
    have h1 := (h 1).1
    have h2 : ((rM0.emb (chunkRow c i) : S1024x2.Idx) 1).val = 0 := rfl
    rw [h2] at h1
    exact absurd h1 (by decide)
theorem read_rank (c : Dev nD) (f : Vec F S1024x2 .f32) :
    (mtM : Memref sig .tc .vmem S1024x2 .f32).view.readAt (Elt F) (rMr c).toLoadRect (metaA m c f) = fun i => rankF' (ixA m c) (chunkRow c i) := by
  funext i
  have hi1 : (i 1).val < 1 := (i 1).isLt
  have e : ((rMr c).emb i : S1024x2.Idx) = rM1.emb (chunkRow c i) := by
    funext a
    apply Fin.ext
    fin_cases a
    · show (k0_off3 c) 0 + 1 * (i 0).val = 0 + 1 * (32 * c.val + (i 0).val)
      rw [k0_off3_eq]; simp
    · show (k0_off3 c) 1 + 1 * (i 1).val = 1 + 1 * 0
      rw [k0_off3_eq]; simp; omega
  show metaA m c f ((rMr c).emb i) = _
  rw [e]
  exact View.write_emb_of_mem (Val := Elt F) (v := ((mtM : Memref sig .tc .vmem S1024x2 .f32).access rM1 : View sig .tc _ _ _)) _ (rankF' (ixA m c)) (Finset.mem_univ (chunkRow c i))

end Cert.Moe

end
-- ==== Proof.ShapeEq.lean ====
/-
# The printed body is the body with its runs written as loops
-/
module

public import proofs.«01_k».proof.Proof.Shape

@[expose] public section

noncomputable section

namespace Cert.Moe

open Cert.KernelIdeal Cert.KernelIdeal.Gen
open Idealize.ShloMosaic Idealize.ShloMosaic.TcCoe
open Idealize.SL.Sem

variable {F : FTy → Type} [FloatOps F]

set_option maxRecDepth 65536 in
theorem body_eq : cc0_body (F := F) xM (Memref.isWhole_whole _) rwM (Memref.isWhole_whole _) ixM (Memref.isWhole_whole _) ewM (Memref.isWhole_whole _)
    swM (Memref.isWhole_whole _) outM (Memref.isWhole_whole _) sbM (Memref.isWhole_whole _) rbM (Memref.isWhole_whole _) bcM (Memref.isWhole_whole _)
    mtM (Memref.isWhole_whole _) cc0_scratch4 cc0_scratch5 cc0_scratch6 cc0_scratch7 = body := by
  rw [cc0_body_eq_skeleton]
  rfl

end Cert.Moe

end
-- ==== Proof.Body.lean ====
/-
# The body

What a device starts from and ends with, the body run from the one to the other, phase by phase, and with it the
pipeline's obligation.
-/
module

public import proofs.«01_k».proof.Proof.Pieces
public import proofs.«01_k».proof.Proof.ShapeEq
public import proofs.«01_k».proof.Proof.Gen.KernelIdeal.Points

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## What a device starts from and ends with -/

/-- Every cell's invariant, at the names the launch gave them, and that every cell has reached its round. -/
def know (K : Dev nD × CI → ℕ) : sProp 𝕄 :=
  iprop((bigSep Finset.univ fun ci : Dev nD × CI => cellInv ER (Rd m) (K ci) (kcell ci.1 ci.2))
    ∗ bigSep Finset.univ fun ci : Dev nD × CI => reached ER (kcell ci.1 ci.2) 0)

instance know_persistent (K : Dev nD × CI → ℕ) : BI.Persistent (know (F := F) m K) := by unfold know; infer_instance

/-- A device's positions on its own cells. -/
def ats (c : Dev nD) : sProp 𝕄 :=
  iprop(atPos ER (barCell c) 0 ∅ 0
    ∗ (bigSep Finset.univ fun j => atPos ER (xCell 0 j c) 0 ∅ 0) ∗ (bigSep Finset.univ fun j => atPos ER (xCell 1 j c) 0 ∅ 0)
    ∗ (bigSep Finset.univ fun j => atPos ER (xCell 2 j c) 0 ∅ 0) ∗ (bigSep Finset.univ fun j => atPos ER (xCell 3 j c) 0 ∅ 0))
/-- The duties a device pays: on its peers' barrier cells, and of its transfers. -/
def pays (c : Dev nD) : sProp 𝕄 :=
  iprop((bigSep Finset.univ fun j => dutyTok ER (barCell (nb c j)) 0 (rev j))
    ∗ (bigSep Finset.univ fun j => dutyTok ER (xCell 0 j c) 0 0) ∗ (bigSep Finset.univ fun j => dutyTok ER (xCell 1 j (nb c j)) 0 0)
    ∗ (bigSep Finset.univ fun j => dutyTok ER (xCell 2 j c) 0 0) ∗ (bigSep Finset.univ fun j => dutyTok ER (xCell 3 j (nb c j)) 0 0))
/-- The credits a device is owed: its barrier's 31 signals, its 31 blocks and its 31 chunks. -/
def credsOf (c : Dev nD) : sProp 𝕄 :=
  iprop(cred (tallyAt (barCell c) () 31) ∗ (bigSep Finset.univ fun j => credX (F := F) 1 c j) ∗ (bigSep Finset.univ fun j => credX (F := F) 3 c j))
/-- A device's own counters, all at zero. -/
def zeros (c : Dev nD) : sProp 𝕄 :=
  iprop((bigSep Finset.univ fun j => semVal (xCell 0 j c) 0) ∗ (bigSep Finset.univ fun j => semVal (xCell 1 j c) 0)
    ∗ (bigSep Finset.univ fun j => semVal (xCell 2 j c) 0) ∗ (bigSep Finset.univ fun j => semVal (xCell 3 j c) 0))
/-- Its four scratch buffers, at any contents. -/
def scratch (c : Dev nD) : sProp 𝕄 :=
  iprop((∃ f, sbLoc c ↦{fullShare} f) ∗ (∃ f, rbLoc c ↦{fullShare} f) ∗ (∃ f, bcLoc c ↦{fullShare} f) ∗ ∃ f, mtLoc c ↦{fullShare} f)

def start (c : Dev nD) : sProp 𝕄 := iprop((∃ K, know m K ∗ ats c ∗ pays c) ∗ credsOf (F := F) c ∗ levAts L lv)
def Φ₀ (c : Dev nD) : sProp 𝕄 := iprop(start m c ∗ scratch c)
def Φ₁ (c : Dev nD) : sProp 𝕄 := iprop(scratch (F := F) c ∗ zeros (F := F) c ∗ semVal (barCell c) 0)

/-- The kernel's result, the same on every device. -/
def outA : Vec F S1024x512 .f32 := k0_pay36 (rowsA m)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => rwA m c
    | ⟨2, _⟩ => ixA m c
    | ⟨3, _⟩ => ewA m c
    | ⟨4, _⟩ => swA m c
    | ⟨5, _⟩ => outA m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The runs of steps -/

section Runs

theorem run_sig {α : Type} (Q : α → sProp 𝕄) (c : Dev nD) (k : PUnit → P F α) :
    iprop(recs m K ∗ owesS c (O₀ c) ∗ bigSep Finset.univ fun j => sigΦ (F := F) c j)
      ⊢ iprop((owesS c (oRow c 0 + oBlk c 0) -∗ WP c (k ⟨⟩) Q) -∗ WP c (steps (sigStep c) 31 (le_refl 31) >>= k) Q) := by
  have h := wp_steps c (sigStep c) (recs m K) (fun n => oRow c 0 + oBlk c 0 + oBar c n) (fun j => sigΦ (F := F) c j) (fun _ => iprop(emp)) Q
    (fun j k => sig_step m K c j _ _ (by rw [oBar_step c j, ← add_assoc]) Q k) k
  rw [oBar_end, add_zero] at h
  unfold O₀
  iintro H Hk
  iapply h $$ H
  iintro ⟨HO, -⟩
  iapply Hk; iexact HO
theorem run_blk {α : Type} (Q : α → sProp 𝕄) (c : Dev nD) (k : PUnit → P F α) :
    iprop(recs m K ∗ owesS c (oRow c 0 + oBlk c 0) ∗ bigSep Finset.univ fun j => blkΦ m c j)
      ⊢ iprop(((owesS c (oRow c 0) ∗ bigSep Finset.univ fun j => credX (F := F) 0 c j) -∗ WP c (k ⟨⟩) Q) -∗ WP c (steps (blkStep c) 31 (le_refl 31) >>= k) Q) := by
  have h := wp_steps c (blkStep c) (recs m K) (fun n => oRow c 0 + oBlk c n) (fun j => blkΦ m c j) (fun j => credX (F := F) 0 c j) Q
    (fun j k => blk_step m K c j _ _ (by rw [oBlk_step c j, ← add_assoc]) Q k) k
  rw [oBlk_end, add_zero] at h
  exact h
theorem run_row {α : Type} (Q : α → sProp 𝕄) (c : Dev nD) (k : PUnit → P F α) :
    iprop(recs m K ∗ owesS c (oRow c 0) ∗ bigSep Finset.univ fun j => rowΦ m c j)
      ⊢ iprop(((owesS c 0 ∗ bigSep Finset.univ fun j => credX (F := F) 2 c j) -∗ WP c (k ⟨⟩) Q) -∗ WP c (steps (rowStep c) 31 (le_refl 31) >>= k) Q) := by
  have h := wp_steps c (rowStep c) (recs m K) (fun n => oRow c n) (fun j => rowΦ m c j) (fun j => credX (F := F) 2 c j) Q
    (fun j k => row_step m K c j _ _ (oRow_step c j) Q k) k
  rw [oRow_end] at h
  exact h
theorem run_blkWait {α : Type} (Q : α → sProp 𝕄) (c : Dev nD) (k : PUnit → P F α) :
    iprop(recs m K ∗ owesS c (oRow c 0) ∗ ((bigSep Finset.univ fun j => credX (F := F) 1 c j) ∗ bigSep Finset.univ fun j => atPos ER (xCell 1 j c) 0 ∅ 0))
      ⊢ iprop(((owesS c (oRow c 0) ∗ bigSep Finset.univ fun j => waitΨ m 1 c j) -∗ WP c (k ⟨⟩) Q) -∗ WP c (steps blkWait 31 (le_refl 31) >>= k) Q) := by
  have h := wp_steps c blkWait (recs m K) (fun _ => oRow c 0) (fun j => waitΦ 1 c j) (fun j => waitΨ m 1 c j) Q (fun j k => blkWait_step m K c j Q k) k
  unfold waitΦ at h
  rw [bigSep_sep'] at h
  exact h
theorem run_rowWait {α : Type} (Q : α → sProp 𝕄) (c : Dev nD) (k : PUnit → P F α) :
    iprop(recs m K ∗ owesS c 0 ∗ ((bigSep Finset.univ fun j => credX (F := F) 3 c j) ∗ bigSep Finset.univ fun j => atPos ER (xCell 3 j c) 0 ∅ 0))
      ⊢ iprop(((owesS c 0 ∗ bigSep Finset.univ fun j => waitΨ m 3 c j) -∗ WP c (k ⟨⟩) Q) -∗ WP c (steps (rowWait c) 31 (le_refl 31) >>= k) Q) := by
  have h := wp_steps c (rowWait c) (recs m K) (fun _ => 0) (fun j => waitΦ 3 c j) (fun j => waitΨ m 3 c j) Q (fun j k => rowWait_step m K c j Q k) k
  unfold waitΦ at h
  rw [bigSep_sep'] at h
  exact h
theorem run_outWait {α : Type} (Q : α → sProp 𝕄) (c : Dev nD) (k : PUnit → P F α) :
    iprop(recs m K ∗ owesS c 0 ∗ ((bigSep Finset.univ fun j => credX (F := F) 0 c j) ∗ bigSep Finset.univ fun j => atPos ER (xCell 0 j c) 0 ∅ 0)
        ∗ ((bigSep Finset.univ fun j => credX (F := F) 2 c j) ∗ bigSep Finset.univ fun j => atPos ER (xCell 2 j c) 0 ∅ 0))
      ⊢ iprop(((owesS c 0 ∗ bigSep Finset.univ fun j => iprop(waitΨ m 0 c j ∗ waitΨ m 2 c j)) -∗ WP c (k ⟨⟩) Q)
        -∗ WP c (steps (outWait c) 31 (le_refl 31) >>= k) Q) := by
  have h := wp_steps c (outWait c) (recs m K) (fun _ => 0) (fun j => iprop(waitΦ 0 c j ∗ waitΦ 2 c j)) (fun j => iprop(waitΨ m 0 c j ∗ waitΨ m 2 c j)) Q
    (fun j k => outWait_step m K c j Q k) k
  unfold waitΦ at h
  rw [bigSep_sep', bigSep_sep', bigSep_sep'] at h
  exact h

end Runs

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem sb_sub0 : (sbM : Memref sig .tc .vmem S256x512 .bf16).view.setOn rB0.toLoadRect.set ⊆ blkS 0 := by
  intro i hi
  obtain ⟨x, hx, rfl⟩ := Finset.mem_map.mp hi
  exact hx
omit [FloatOps F] in
theorem rb_sub0 : (rbM : Memref sig .tc .vmem S256x512 .bf16).view.setOn rB0.toLoadRect.set ⊆ blkS 0 := by
  intro i hi
  obtain ⟨x, hx, rfl⟩ := Finset.mem_map.mp hi
  exact hx
omit [FloatOps F] in
theorem bc_subc (c : Dev nD) : (bcM : Memref sig .tc .vmem S1024x512 .bf16).view.setOn (rBc c).toLoadRect.set ⊆ rowS c := by
  intro i hi
  obtain ⟨x, hx, rfl⟩ := Finset.mem_map.mp hi
  exact hx
omit [FloatOps F] in
theorem rb_st0 : ((rbM : Memref sig .tc .vmem S256x512 .bf16).access rB0 : View sig .tc _ _ _).setOn Finset.univ ⊆ blkS 0 := by
  rw [View.setOn_univ]
  exact subset_of_eq (View.set_slice_whole cc0_scratch1 rB0)
omit [FloatOps F] in
theorem bc_stc (c : Dev nD) : ((bcM : Memref sig .tc .vmem S1024x512 .bf16).access (rBc c) : View sig .tc _ _ _).setOn Finset.univ ⊆ rowS c := by
  rw [View.setOn_univ]
  exact subset_of_eq (View.set_slice_whole cc0_scratch2 (rBc c))

def inputs (c : Dev nD) : sProp 𝕄 :=
  iprop(((c : Thread nD τ).loc cc0_stg0_0 ↦{fullShare} xA m c) ∗ ((c : Thread nD τ).loc cc0_stg1_0 ↦{fullShare} rwA m c)
    ∗ ((c : Thread nD τ).loc cc0_stg2_0 ↦{fullShare} ixA m c) ∗ ((c : Thread nD τ).loc cc0_stg3_0 ↦{fullShare} ewA m c)
    ∗ ((c : Thread nD τ).loc cc0_stg4_0 ↦{fullShare} swA m c))

theorem mt_stored (c : Dev nD) (f : Vec F S1024x2 .f32) :
    (((mtM : Memref sig .tc .vmem S1024x2 .f32).access rM1 : View sig .tc _ _ _).loc (c : Thread nD τ) ↦{fullShare}
        ((mtM : Memref sig .tc .vmem S1024x2 .f32).access rM1 : View sig .tc _ _ _).write (Elt F)
          (((mtM : Memref sig .tc .vmem S1024x2 .f32).access rM0 : View sig .tc _ _ _).write (Elt F) f (ownF (ixA m c)) Finset.univ) (rankF' (ixA m c)) Finset.univ : sProp 𝕄)
      ⊢ mtLoc c ↦{fullShare} metaA m c f := BI.Entails.refl _
theorem sb_stored (c : Dev nD) :
    (((sbM : Memref sig .tc .vmem S256x512 .bf16).access rSb : View sig .tc _ _ _).loc (c : Thread nD τ) ↦{fullShare}
        (sendV c (xA m c) (rwA m c) (ixA m c)
          ((ewM : Memref sig .tc .vmem S4x256x512 .f32).view.readAt (Elt F) rW0.toLoadRect (ewA m c))
          ((ewM : Memref sig .tc .vmem S4x256x512 .f32).view.readAt (Elt F) rW1.toLoadRect (ewA m c))
          ((ewM : Memref sig .tc .vmem S4x256x512 .f32).view.readAt (Elt F) rW2.toLoadRect (ewA m c))
          ((ewM : Memref sig .tc .vmem S4x256x512 .f32).view.readAt (Elt F) rW3.toLoadRect (ewA m c)) : Vec F S256x512 .bf16) : sProp 𝕄)
      ⊢ iprop(sbP c 0 (sendA m c) ∗ bigSep Finset.univ fun j : Fin 31 => sbP c j.succ (sendA m c)) := Entails.of_eq (sb_split c (sendA m c))
theorem rb0_stored (c : Dev nD) (f : Vec F S256x512 .bf16) :
    (((rbM : Memref sig .tc .vmem S256x512 .bf16).access rB0 : View sig .tc _ _ _).loc (c : Thread nD τ) ↦[blkS 0]{fullShare}
        ((rbM : Memref sig .tc .vmem S256x512 .bf16).access rB0 : View sig .tc _ _ _).write (Elt F) f
          (k0_pay29 ((sbM : Memref sig .tc .vmem S256x512 .bf16).view.readAt (Elt F) rB0.toLoadRect (sendA m c))) Finset.univ : sProp 𝕄)
      ⊢ rbP c 0 (recvA m c) := Entails.of_eq (pointsTo_congr (write_rb0 m c f))
theorem bcc_stored (c : Dev nD) (f : Vec F S1024x512 .bf16) :
    (((bcM : Memref sig .tc .vmem S1024x512 .bf16).access (rBc c) : View sig .tc _ _ _).loc (c : Thread nD τ) ↦[rowS c]{fullShare}
        ((bcM : Memref sig .tc .vmem S1024x512 .bf16).access (rBc c) : View sig .tc _ _ _).write (Elt F) f
          (doneV c ((xM : Memref sig .tc .vmem S1024x256 .f32).view.readAt (Elt F) (rXc c).toLoadRect (xA m c)) (swA m c)
            (fun i => ownF (ixA m c) (chunkRow c i)) (fun i => rankF' (ixA m c) (chunkRow c i)) (recvA m c)) Finset.univ : sProp 𝕄)
      ⊢ bcP c c fullShare (rowsA m) := Entails.of_eq (pointsTo_congr (write_bc m c f))
theorem out_stored (c : Dev nD) :
    (((outM : Memref sig .tc .vmem S1024x512 .f32).access rOut : View sig .tc _ _ _).loc (c : Thread nD τ) ↦{fullShare} (k0_pay36 (rowsA m) : Vec F S1024x512 .f32) : sProp 𝕄)
      ⊢ (c : Thread nD τ).loc cc0_stg5_0 ↦{fullShare} outA m := BI.Entails.refl _

set_option maxHeartbeats 1600000 in
/-- The body, from what a device starts from to what it ends with. -/
theorem sound_body (c : Dev nD) (g : Vec F S1024x512 .f32) (Kt : PUnit → sProp 𝕄) :
    iprop((recs m K ∗ ats c ∗ pays c ∗ credsOf (F := F) c ∗ scratch (F := F) c) ∗ owesS c (O₀ c) ∗ inputs m c ∗ ((c : Thread nD τ).loc cc0_stg5_0 ↦{fullShare} g)
      ∗ ((Φ₁ (F := F) c ∗ owesS c 0 ∗ inputs m c ∗ ((c : Thread nD τ).loc cc0_stg5_0 ↦{fullShare} outA m)) -∗ Kt ⟨⟩))
      ⊢ WP c body Kt := by
  have hend : (steps (F := F) (outWait c) 31 (le_refl 31)) = steps (outWait c) 31 (le_refl 31) >>= fun _ => pure ⟨⟩ := (bind_pure _).symm
  unfold body WP
  simp only [Prog.lift, Prog.bind_op, Prog.bind_ret, Prog.pure_eq_ret, wp_deviceId]
  unfold ats pays credsOf scratch inputs
  iintro ⟨⟨#HR, ⟨HatB, Hat0, Hat1, Hat2, Hat3⟩, ⟨HtB, Ht0, Ht1, Ht2, Ht3⟩, ⟨HcB, Hc1, Hc3⟩, ⟨⟨%fsb, Hsb⟩, ⟨%frb, Hrb⟩, ⟨%fbc, Hbc⟩, ⟨%fmt, Hmt⟩⟩⟩,
    HO, ⟨Hx, Hrw, Hix, Hew, Hsw⟩, Hout, Hk⟩
  -- the signals
  ihave Hs := (sig_intro c frb fbc) $$ [Hrb Hbc HtB]
  · isplitl [Hrb]; · iexact Hrb
    isplitl [Hbc] <;> iassumption
  icases Hs with ⟨Hrb0, Hbcc, Hs⟩
  iapply (run_sig m K Kt c _) $$ [HO Hs]
  · isplitr; · iexact HR
    isplitl [HO] <;> iassumption
  iintro HO
  -- the tokens' table, and the blocks to send
  iapply (wp_load 𝒱₀ (c : Thread nD τ) none Set.univ (m := xM) (Finset.subset_univ _)) $$ Hx; iintro Hx
  rw [read_x]
  iapply (wp_load 𝒱₀ (c : Thread nD τ) none Set.univ (m := rwM) (Finset.subset_univ _)) $$ Hrw; iintro Hrw
  rw [read_rw]
  iapply (wp_load 𝒱₀ (c : Thread nD τ) none Set.univ (m := ixM) (Finset.subset_univ _)) $$ Hix; iintro Hix
  rw [read_ix]
  iapply (wp_load 𝒱₀ (c : Thread nD τ) none Set.univ (m := mtM) (Finset.subset_univ _)) $$ Hmt; iintro Hmt
  iapply (wp_store 𝒱₀ (c : Thread nD τ) none Set.univ (m := mtM) (r := rM0) (Mk := Finset.univ) (Finset.subset_univ _)) $$ Hmt; iintro Hmt
  iapply (wp_load 𝒱₀ (c : Thread nD τ) none Set.univ (m := mtM) (Finset.subset_univ _)) $$ Hmt; iintro Hmt
  iapply (wp_store 𝒱₀ (c : Thread nD τ) none Set.univ (m := mtM) (r := rM1) (Mk := Finset.univ) (Finset.subset_univ _)) $$ Hmt; iintro Hmt
  ihave Hmt := (mt_stored m c fmt) $$ Hmt
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := sbM) (Finset.subset_univ _)) $$ Hsb; iintro Hsb
  iapply (wp_store 𝒱₀ (c : Thread nD τ) none Set.univ (m := sbM) (r := rSb) (Mk := Finset.univ) (Finset.subset_univ _)) $$ Hsb; iintro Hsb
  rw [write_sb]
  ihave Hsb := (sb_stored m c) $$ Hsb
  icases Hsb with ⟨Hsb0, Hsbs⟩
  -- the barrier
  iapply (bar_wait m K c Kt _) $$ [HO HcB HatB]
  · isplitr; · iexact HR
    isplitl [HO]; · iexact HO
    isplitl [HcB] <;> iassumption
  iintro ⟨HO, HzB, Hbar⟩
  -- the blocks sent
  ihave Hs := (blk_intro m c) $$ [Hsbs Hbar Ht0 Ht1]
  · isplitl [Hsbs]; · iexact Hsbs
    isplitl [Hbar]; · iexact Hbar
    isplitl [Ht0] <;> iassumption
  icases Hs with ⟨Hs, Hbcs⟩
  iapply (run_blk m K Kt c _) $$ [HO Hs]
  · isplitr; · iexact HR
    isplitl [HO] <;> iassumption
  iintro ⟨HO, Hc0⟩
  -- the block for itself copied
  unfold sbP rbP
  iapply (wp_load 𝒱₀ (c : Thread nD τ) none Set.univ (m := sbM) (sb_sub0)) $$ Hsb0; iintro Hsb0
  iapply (wp_load 𝒱₀ (c : Thread nD τ) none Set.univ (m := rbM) (rb_sub0)) $$ Hrb0; iintro Hrb0
  iapply (wp_store 𝒱₀ (c : Thread nD τ) none Set.univ (m := rbM) (r := rB0) (Mk := Finset.univ) (rb_st0)) $$ Hrb0; iintro Hrb0
  ihave Hrb0 := (rb0_stored m c frb) $$ Hrb0
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  rw [read_sw]
  iapply (wp_load 𝒱₀ (c : Thread nD τ) none Set.univ (m := mtM) (Finset.subset_univ _)) $$ Hmt; iintro Hmt
  rw [read_own]
  iapply (wp_load 𝒱₀ (c : Thread nD τ) none Set.univ (m := mtM) (Finset.subset_univ _)) $$ Hmt; iintro Hmt
  rw [read_rank]
  -- the blocks awaited
  iapply (run_blkWait m K Kt c _) $$ [HO Hc1 Hat1]
  · isplitr; · iexact HR
    isplitl [HO]; · iexact HO
    isplitl [Hc1] <;> iassumption
  iintro ⟨HO, Hw⟩
  ihave Hw := (rb_whole m c) $$ [Hrb0 Hw]
  · isplitl [Hrb0]; · iexact Hrb0
    iexact Hw
  icases Hw with ⟨Hz1, Hrb⟩
  iapply (wp_load 𝒱₀ (c : Thread nD τ) none Set.univ (m := rbM) (Finset.subset_univ _)) $$ Hrb; iintro Hrb
  rw [read_rb]
  unfold bcP
  iapply (wp_load 𝒱₀ (c : Thread nD τ) none Set.univ (m := bcM) (bc_subc c)) $$ Hbcc; iintro Hbcc
  iapply (wp_store 𝒱₀ (c : Thread nD τ) none Set.univ (m := bcM) (r := rBc c) (Mk := Finset.univ) (bc_stc c)) $$ Hbcc; iintro Hbcc
  ihave Hbcc := (bcc_stored m c fbc) $$ Hbcc
  -- the finished rows sent
  ihave Hs := (row_intro m c) $$ [Hbcc Hbcs Ht2 Ht3]
  · isplitl [Hbcc]; · iexact Hbcc
    isplitl [Hbcs]; · iexact Hbcs
    isplitl [Ht2] <;> iassumption
  icases Hs with ⟨Hbcc, Hs⟩
  iapply (run_row m K Kt c _) $$ [HO Hs]
  · isplitr; · iexact HR
    isplitl [HO] <;> iassumption
  iintro ⟨HO, Hc2⟩
  -- everyone's awaited
  iapply (run_rowWait m K Kt c _) $$ [HO Hc3 Hat3]
  · isplitr; · iexact HR
    isplitl [HO]; · iexact HO
    isplitl [Hc3] <;> iassumption
  iintro ⟨HO, Hw⟩
  ihave Hw := (bc_whole m c) $$ [Hbcc Hw]
  · isplitl [Hbcc] <;> iassumption
  icases Hw with ⟨Hz3, Hbc, Hbcr⟩
  iapply (wp_load 𝒱₀ (c : Thread nD τ) none Set.univ (m := bcM) (Finset.subset_univ _)) $$ Hbc; iintro Hbc
  rw [read_bc]
  iapply (wp_load 𝒱₀ (c : Thread nD τ) none Set.univ (m := outM) (Finset.subset_univ _)) $$ Hout; iintro Hout
  iapply (wp_store 𝒱₀ (c : Thread nD τ) none Set.univ (m := outM) (r := rOut) (Mk := Finset.univ) (Finset.subset_univ _)) $$ Hout; iintro Hout
  rw [write_out]
  ihave Hout := (out_stored m c) $$ Hout
  -- its own sends awaited
  rw [hend]
  iapply (run_outWait m K Kt c _) $$ [HO Hc0 Hat0 Hc2 Hat2]
  · isplitr; · iexact HR
    isplitl [HO]; · iexact HO
    isplitl [Hc0 Hat0]
    · isplitl [Hc0] <;> iassumption
    isplitl [Hc2] <;> iassumption
  iintro ⟨HO, Hw⟩
  ihave Hw := (out_whole m c) $$ [Hsb0 Hbc Hbcr Hw]
  · isplitl [Hsb0]; · unfold sbP; iexact Hsb0
    isplitl [Hbc]; · iexact Hbc
    isplitl [Hbcr] <;> iassumption
  icases Hw with ⟨Hz0, Hz2, Hsb, Hbc⟩
  simp only [Prog.pure_eq_ret]
  unfold WP
  rw [wp_ret]; imodintro
  iapply Hk
  unfold Φ₁ scratch zeros
  isplitl [Hsb Hrb Hbc Hmt Hz0 Hz1 Hz2 Hz3 HzB]
  · isplitl [Hsb Hrb Hbc Hmt]
    · isplitl [Hsb]; · iexists _; iexact Hsb
      isplitl [Hrb]; · iexists _; iexact Hrb
      isplitl [Hbc]; · iexists _; iexact Hbc
      iexists _; iexact Hmt
    isplitl [Hz0 Hz1 Hz2 Hz3]
    · isplitl [Hz0]; · iexact Hz0
      isplitl [Hz1]; · iexact Hz1
      isplitl [Hz2] <;> iassumption
    iexact HzB
  isplitl [HO]; · iexact HO
  isplitl [Hx Hrw Hix Hew Hsw]
  · isplitl [Hx]; · iexact Hx
    isplitl [Hrw]; · iexact Hrw
    isplitl [Hix]; · iexact Hix
    isplitl [Hew] <;> iassumption
  iexact Hout

/-! ## The pipeline's obligation -/

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPost (c : Dev nD) : sProp 𝕄 :=
  iprop(Φ₁ (F := F) c ∗ (dats m 0 c).owesAt () t0_0.succ
    ∗ stg c cc0_stg0_0 (xA m c) ∗ stg c cc0_stg1_0 (rwA m c) ∗ stg c cc0_stg2_0 (ixA m c) ∗ stg c cc0_stg3_0 (ewA m c) ∗ stg c cc0_stg4_0 (swA m c)
    ∗ stg c cc0_stg5_0 (outA m))

theorem blk_x (f : main_arg0.ty.Contents (Elt F)) : (win0_0.blk (0 : Fin 1)).view.read (Elt F) f = f :=
  Memref.read_access_unit_zero (Elt F) main_arg0 (by funext a; fin_cases a <;> rfl) _ f
theorem before_x (c : Dev nD) (d) : (dats m 0 c).before (0 : Fin 6) t0_0 d = xA m c := by
  unfold Dat.before
  rw [if_pos (fetch0_0 t0_0)]
  exact (rfl : _ = (win0_0.blk (0 : Fin 1)).view.read (Elt F) (xA m c)).trans (blk_x _)
theorem blk_rw (f : main_arg1.ty.Contents (Elt F)) : (win0_1.blk (0 : Fin 1)).view.read (Elt F) f = f :=
  Memref.read_access_unit_zero (Elt F) main_arg1 (by funext a; fin_cases a <;> rfl) _ f
theorem before_rw (c : Dev nD) (d) : (dats m 0 c).before (1 : Fin 6) t0_0 d = rwA m c := by
  unfold Dat.before
  rw [if_pos (fetch0_1 t0_0)]
  exact (rfl : _ = (win0_1.blk (0 : Fin 1)).view.read (Elt F) (rwA m c)).trans (blk_rw _)
theorem blk_ix (f : main_arg2.ty.Contents (Elt F)) : (win0_2.blk (0 : Fin 1)).view.read (Elt F) f = f :=
  Memref.read_access_unit_zero (Elt F) main_arg2 (by funext a; fin_cases a <;> rfl) _ f
theorem before_ix (c : Dev nD) (d) : (dats m 0 c).before (2 : Fin 6) t0_0 d = ixA m c := by
  unfold Dat.before
  rw [if_pos (fetch0_2 t0_0)]
  exact (rfl : _ = (win0_2.blk (0 : Fin 1)).view.read (Elt F) (ixA m c)).trans (blk_ix _)
theorem blk_ew (f : main_arg3.ty.Contents (Elt F)) : (win0_3.blk (0 : Fin 1)).view.read (Elt F) f = f :=
  Memref.read_access_unit_zero (Elt F) main_arg3 (by funext a; fin_cases a <;> rfl) _ f
theorem before_ew (c : Dev nD) (d) : (dats m 0 c).before (3 : Fin 6) t0_0 d = ewA m c := by
  unfold Dat.before
  rw [if_pos (fetch0_3 t0_0)]
  exact (rfl : _ = (win0_3.blk (0 : Fin 1)).view.read (Elt F) (ewA m c)).trans (blk_ew _)
theorem blk_sw (f : main_arg4.ty.Contents (Elt F)) : (win0_4.blk (0 : Fin 1)).view.read (Elt F) f = f :=
  Memref.read_access_unit_zero (Elt F) main_arg4 (by funext a; fin_cases a <;> rfl) _ f
theorem before_sw (c : Dev nD) (d) : (dats m 0 c).before (4 : Fin 6) t0_0 d = swA m c := by
  unfold Dat.before
  rw [if_pos (fetch0_4 t0_0)]
  exact (rfl : _ = (win0_4.blk (0 : Fin 1)).view.read (Elt F) (swA m c)).trans (blk_sw _)

theorem recs_intro : iprop(know m K ∗ levAts L lv) ⊢ recs (F := F) m K := by
  unfold know recs
  iintro ⟨⟨H1, H2⟩, H3⟩
  isplitl [H1]; · iexact H1
  isplitl [H2] <;> iassumption

set_option maxRecDepth 4000 in
theorem body_sound (c : Dev nD) : bodyPre m c ⊢ WP c body (fun _ => bodyPost m c) := by
  unfold bodyPre Φ₀ start stg
  simp only [before_x, before_rw, before_ix, before_ew, before_sw]
  unfold Dat.owesAt Pipeline.owesWithin
  rw [show (dats m 0 c).owed t0_0.castSucc = O₀ c from rfl]
  iintro ⟨⟨⟨⟨%K, Hkn, Hat, Hpay⟩, Hcr, Hlev⟩, Hscr⟩, ⟨%W, %hW, HO⟩, ⟨%d0, %g0, %e0, Hx⟩, ⟨%d1, %g1, %e1, Hrw⟩, ⟨%d2, %g2, %e2, Hix⟩, ⟨%d3, %g3, %e3, Hew⟩, ⟨%d4, %g4, %e4, Hsw⟩, ⟨%d5, %g5, %e5, Hout⟩⟩
  subst e0 e1 e2 e3 e4
  iapply (sound_body m K c g5 fun _ => bodyPost m c)
  isplitl [Hkn Hlev Hat Hpay Hcr Hscr]
  · isplitl [Hkn Hlev]
    · iapply (recs_intro m K)
      isplitl [Hkn] <;> iassumption
    isplitl [Hat]; · iexact Hat
    isplitl [Hpay]; · iexact Hpay
    isplitl [Hcr] <;> iassumption
  isplitl [HO]; · unfold owesS; iexists W; iexact HO
  unfold inputs
  isplitl [Hx Hrw Hix Hew Hsw]
  · isplitl [Hx]; · iexact Hx
    isplitl [Hrw]; · iexact Hrw
    isplitl [Hix]; · iexact Hix
    isplitl [Hew] <;> iassumption
  isplitl [Hout]; · iexact Hout
  unfold bodyPost owesS stg Dat.owesAt Pipeline.owesWithin
  rw [show (dats m 0 c).owed t0_0.succ = 0 from rfl]
  iintro ⟨HΦ, ⟨%W', HO⟩, ⟨Hx, Hrw, Hix, Hew, Hsw⟩, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  isplitl [Hsw]
  · iexists _; isplitr; · (ipureintro; rfl)
    iexact Hsw
  iexists _; isplitr; · (ipureintro; rfl)
  iexact Hout

set_option maxRecDepth 40000 in
/-- The body obligation of the launch, on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (cc0_body (F := F) xM (Memref.isWhole_whole _) rwM (Memref.isWhole_whole _) ixM (Memref.isWhole_whole _) ewM (Memref.isWhole_whole _)
    swM (Memref.isWhole_whole _) outM (Memref.isWhole_whole _) sbM (Memref.isWhole_whole _) rbM (Memref.isWhole_whole _) bcM (Memref.isWhole_whole _)
    mtM (Memref.isWhole_whole _) cc0_scratch4 cc0_scratch5 cc0_scratch6 cc0_scratch7) (fun _ => bodyPost m c)
  rw [body_eq]
  exact body_sound m c

end Cert.Moe

end
-- ==== Proof.Deal.lean ====
/-
# What the launch deals out

The cells' ghost state as it is minted, one share to each device; the invariants made of it; the duty tokens dealt
around the ring, each to the device that pays; and the credits each device's cells are owed.
-/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One device's cells, one by one -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_pairs (Φ : Fin 4 × Fin 31 → sProp 𝕄) : bigSep Finset.univ Φ
    = iprop((bigSep Finset.univ fun j => Φ (0, j)) ∗ (bigSep Finset.univ fun j => Φ (1, j)) ∗ (bigSep Finset.univ fun j => Φ (2, j))
      ∗ bigSep Finset.univ fun j => Φ (3, j)) := by
  rw [bigSep_univ_prod, bigSep_fin4]

omit [FloatOps F] in
theorem bigSep_cells (Φ : CI → sProp 𝕄) : bigSep Finset.univ Φ
    = iprop(Φ none ∗ bigSep Finset.univ fun x : Fin 4 × Fin 31 => Φ (some x)) := by
  have e : (Finset.univ : Finset CI).erase none = Finset.univ.map Function.Embedding.some := by decide +kernel
  have h : bigSep Finset.univ Φ = iprop(Φ none ∗ bigSep (Finset.univ.erase none) Φ) := bigSep_univ_split none
  rw [h, e, bigSep_map]; rfl

/-! ## What is minted at launch -/

def allCells : Finset (GSem nD τ sig) := Finset.univ.map ⟨fun ci : Dev nD × CI => kcell ci.1 ci.2, kcell_inj⟩

/-- A device's own cells' duty tokens: its barrier's 31, and one of each transfer semaphore. -/
abbrev DT : Type := Fin 31 ⊕ (Fin 4 × Fin 31)
def tokOf (x : Dev nD × DT) : GSem nD τ sig × ℕ × Fin 31 := match x.2 with
  | .inl d => (barCell x.1, 0, d)
  | .inr (q, j) => (xCell q j x.1, 0, 0)

theorem tokOf_inj : Function.Injective tokOf := by
  have hc : ∀ x, (tokOf x).1.1.1 = x.1 := by rintro ⟨c, (d | ⟨q, j⟩)⟩ <;> rfl
  rintro ⟨c, x⟩ ⟨c', x'⟩ h
  have h1 : c = c' := by
    have := congrArg (fun y : GSem nD τ sig × ℕ × Fin 31 => y.1.1.1) h
    exact (hc (c, x)).symm.trans (this.trans (hc (c', x')))
  subst h1
  have h2 : (tokOf (c, x)).1.2 = (tokOf (c, x')).1.2 := congrArg (fun y : GSem nD τ sig × ℕ × Fin 31 => y.1.2) h
  have h3 : (tokOf (c, x)).2.2 = (tokOf (c, x')).2.2 := congrArg (fun y : GSem nD τ sig × ℕ × Fin 31 => y.2.2) h
  rcases x with d | ⟨q, j⟩ <;> rcases x' with d' | ⟨q', j'⟩
  · have h4 : d = d' := h3
    rw [h4]
  · exact absurd (ksem_inj (a₁ := none) (a₂ := some (q', j')) h2) (by simp)
  · exact absurd (ksem_inj (a₁ := some (q, j)) (a₂ := none) h2) (by simp)
  · have h4 := Option.some.inj (ksem_inj (a₁ := some (q, j)) (a₂ := some (q', j')) h2)
    rw [h4]
def allToks : Finset (GSem nD τ sig × ℕ × Fin 31) := Finset.univ.map ⟨tokOf, tokOf_inj⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d => dutyTok ER (barCell c) 0 d) ∗ (bigSep Finset.univ fun j => dutyTok ER (xCell 0 j c) 0 0)
    ∗ (bigSep Finset.univ fun j => dutyTok ER (xCell 1 j c) 0 0) ∗ (bigSep Finset.univ fun j => dutyTok ER (xCell 2 j c) 0 0)
    ∗ bigSep Finset.univ fun j => dutyTok ER (xCell 3 j c) 0 0)

def atAll (c : Dev nD) : sProp 𝕄 := bigSep Finset.univ fun i : CI => atPos ER (kcell c i) 0 ∅ 0
def reachedAll (c : Dev nD) : sProp 𝕄 := bigSep Finset.univ fun i : CI => reached ER (kcell c i) 0
def stateAll (c : Dev nD) : sProp 𝕄 := bigSep Finset.univ fun i : CI => roundState ER (Rd m) (kcell c i) 0
def invAll (c : Dev nD) : sProp 𝕄 := bigSep Finset.univ fun i : CI => iprop(∃ κ : ℕ, cellInv ER (Rd m) κ (kcell c i))

/-- What each device is dealt of it. -/
def G (c : Dev nD) : sProp 𝕄 := iprop(stateAll m c ∗ atAll (F := F) c ∗ reachedAll (F := F) c ∗ toks (F := F) c)
/-- What it holds once the invariants are made and the tokens dealt to those who pay. -/
def G' (c : Dev nD) : sProp 𝕄 := iprop(∃ K, know m K ∗ ats (F := F) c ∗ pays (F := F) c)

omit [FloatOps F] in
theorem toks_eq (c : Dev nD) : (bigSep Finset.univ fun x : DT => (dutyTok ER (tokOf (c, x)).1 (tokOf (c, x)).2.1 (tokOf (c, x)).2.2 : sProp 𝕄)) = toks c := by
  have h : (bigSep Finset.univ fun x : DT => (dutyTok ER (tokOf (c, x)).1 (tokOf (c, x)).2.1 (tokOf (c, x)).2.2 : sProp 𝕄))
      = iprop((bigSep Finset.univ fun d => dutyTok ER (barCell c) 0 d) ∗ bigSep Finset.univ fun x : Fin 4 × Fin 31 => dutyTok ER (xCell x.1 x.2 c) 0 0) :=
    bigSep_univ_sum _
  rw [h, bigSep_pairs]; rfl

theorem fund_all : BI.own (ER (initOf allCells allToks)) ⊢ (|==> bigSep Finset.univ (G (F := F) m) : sProp 𝕄) := by
  have hX (Φ : GSem nD τ sig → sProp 𝕄) : bigSep allCells Φ = bigSep Finset.univ fun c : Dev nD => bigSep Finset.univ fun i : CI => Φ (kcell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  unfold stateAll atAll reachedAll
  isplitl [Hst']; · iexact Hst'
  isplitl [Hat']; · iexact Hat'
  isplitl [Hr']; · iexact Hr'
  iexact Htok'

/-! ## The counters -/

omit [FloatOps F] in
theorem ownSems0_eq (c : Dev nD) : (Pipeline.ownSems0 (Ix := Unit) (Name := ℕ) (U := UU) (Lvl := ℕ) (Val := Elt F) (τ := τ) osem c : sProp 𝕄)
    = zeros c := by
  unfold Pipeline.ownSems0 zeros; rw [bigSep_pairs]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell c i) 0 : sProp 𝕄) := by
  rw [unscopedSems0_eq, bigSep_cells]
  iintro ⟨HS, HB⟩
  isplitl [HB]; · iexact HB
  ihave HS := (Entails.of_eq (show (Pipeline.ownSems0 (Ix := Unit) (Name := ℕ) (U := UU) (Lvl := ℕ) (Val := Elt F) (τ := τ) osem c : sProp 𝕄)
    = bigSep Finset.univ fun x : Fin 4 × Fin 31 => semVal (kcell c (some x)) 0 from rfl)) $$ HS
  iexact HS

theorem alloc_all (c : Dev nD) : iprop((bigSep Finset.univ fun i : CI => semVal (kcell c i) 0) ∗ stateAll m c)
    ⊢ (|={Set.univ}=> invAll (F := F) m c : sProp 𝕄) := by
  unfold stateAll invAll
  rw [← bigSep_sep']
  exact (bigSep_mono fun i _ => (Rounds.body_intro ER (Rd m) (kcell c i)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(invAll m c ∗ atAll (F := F) c ∗ reachedAll (F := F) c ∗ toks (F := F) c) := by
  unfold G
  iintro ⟨Hos, Hus, Hst, Hrest⟩
  ihave Hv := (sems0_eq (F := F) c) $$ [Hos Hus]
  · isplitl [Hos] <;> iassumption
  imod (alloc_all m c) $$ [Hv Hst] with Hinv
  · isplitl [Hv] <;> iassumption
  imodintro
  isplitl [Hinv]; · iexact Hinv
  iexact Hrest

/-! ## Dealing the tokens to those who pay -/

omit [FloatOps F] in
/-- A family over devices and offsets, turned around the ring by each offset. -/
theorem around (Φ : Dev nD → Fin 31 → sProp 𝕄) : (bigSep Finset.univ fun c => bigSep Finset.univ fun j => Φ c j)
    = bigSep Finset.univ fun c => bigSep Finset.univ fun j => Φ (nb c j) j := by
  rw [bigSep_univ_comm, bigSep_univ_comm (fun c j => Φ (nb c j) j)]
  exact bigSep_congr fun j _ => bigSep_univ_equiv (turn j) (fun c => Φ c j)

omit [FloatOps F] in
theorem around_rev (Φ : Dev nD → Fin 31 → sProp 𝕄) : (bigSep Finset.univ fun c => bigSep Finset.univ fun d => Φ c d)
    = bigSep Finset.univ fun c => bigSep Finset.univ fun j => Φ (nb c j) (rev j) := by
  rw [← around (fun c j => Φ c (rev j))]
  exact bigSep_congr fun c _ => bigSep_rev (fun d => Φ c d)

omit [FloatOps F] in
theorem toks_around : (bigSep Finset.univ fun c : Dev nD => (toks c : sProp 𝕄)) ⊢ bigSep Finset.univ fun c : Dev nD => pays c := by
  unfold toks pays
  rw [bigSep_sep', bigSep_sep', bigSep_sep', bigSep_sep', bigSep_sep', bigSep_sep', bigSep_sep', bigSep_sep',
    around_rev (fun c d => (dutyTok ER (barCell c) 0 d : sProp 𝕄)),
    around (fun c j => (dutyTok ER (xCell 1 j c) 0 0 : sProp 𝕄)),
    around (fun c j => (dutyTok ER (xCell 3 j c) 0 0 : sProp 𝕄))]

omit [FloatOps F] in
theorem atAll_eq (c : Dev nD) : (atAll c : sProp 𝕄) = ats c := by
  unfold atAll ats; rw [bigSep_cells, bigSep_pairs]

theorem ghost_intro (K : Dev nD × CI → ℕ) (c : Dev nD) : iprop(know m K ∗ atAll (F := F) c ∗ pays (F := F) c) ⊢ G' m c := by
  unfold G'
  iintro ⟨HK, Ha, Hp⟩
  ihave Ha := (Entails.of_eq (atAll_eq (F := F) c)) $$ Ha
  iexists K
  isplitl [HK]; · iexact HK
  isplitl [Ha] <;> iassumption

omit [FloatOps F] in
theorem bigSep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop(invAll m c ∗ atAll (F := F) c ∗ reachedAll (F := F) c ∗ toks (F := F) c))
      ⊢ bigSep Finset.univ (G' (F := F) m) := by
  have hI : (bigSep Finset.univ fun c : Dev nD => invAll (F := F) m c) ⊢ iprop(∃ K : Dev nD × CI → ℕ,
      bigSep Finset.univ fun ci : Dev nD × CI => cellInv ER (Rd m) (K ci) (kcell ci.1 ci.2)) := by
    unfold invAll
    rw [← bigSep_univ_prod (fun ci : Dev nD × CI => iprop(∃ κ : ℕ, cellInv ER (Rd m) κ (kcell ci.1 ci.2)))]
    exact BI.bigSep_exists_pi Finset.univ (fun (ci : Dev nD × CI) (κ : ℕ) => (cellInv ER (Rd m) κ (kcell ci.1 ci.2) : sProp 𝕄))
  have hR : (bigSep Finset.univ fun c : Dev nD => reachedAll (F := F) c) = bigSep Finset.univ fun ci : Dev nD × CI => reached ER (kcell ci.1 ci.2) 0 := by
    unfold reachedAll
    rw [← bigSep_univ_prod (fun ci : Dev nD × CI => (reached ER (kcell ci.1 ci.2) 0 : sProp 𝕄))]
  rw [bigSep_sep', bigSep_sep', bigSep_sep', hR]
  iintro ⟨HI, Hat, #HR, Htok⟩
  ihave HK := hI $$ HI
  icases HK with ⟨%K, #HI⟩
  ihave Htk := (toks_around (F := F)) $$ Htok
  iapply (bigSep_persist (R := know m K) fun c _ => ghost_intro m K c)
  isplitr
  · unfold know; isplitl; · iexact HI
    iexact HR
  · rw [bigSep_sep']
    isplitl [Hat]; · iexact Hat
    iexact Htk

/-- Every device's counters at zero and its share of what was minted: the invariants are made, and the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The launch credit -/

/-- What all devices owe a cell of device `c`, when each owes `N` to one cell of each of its peers. -/
theorem owed_total (f : Fin 31 → CI) (N : ℕ) (c : Dev nD) (i : CI) :
    ∑ d : Dev nD, (∑ j, tallyAt (kcell (nb d j) (f j)) () N : CellTallies nD τ sig Unit) (kcell c i) () = ∑ j, if f j = i then N else 0 := by
  have h1 : ∀ d : Dev nD, (∑ j, tallyAt (kcell (nb d j) (f j)) () N : CellTallies nD τ sig Unit) (kcell c i) ()
      = ∑ j, if d = prv c j then (if f j = i then N else 0) else 0 := fun d => by
    rw [Finset.sum_apply, Finsupp.finsetSum_apply]
    refine Finset.sum_congr rfl fun j _ => ?_
    rw [tallyAt_apply]
    by_cases hd : d = prv c j
    · subst hd
      rw [nb_prv, if_pos rfl]
      by_cases hi : f j = i
      · rw [if_pos ⟨by rw [hi], rfl⟩, if_pos hi]
      · rw [if_neg (fun h => hi (congrArg Prod.snd (kcell_inj (a₁ := (c, i)) (a₂ := (c, f j)) h.1)).symm), if_neg hi]
    · rw [if_neg (fun h => hd ?_), if_neg hd]
      have h2 : c = nb d j := congrArg Prod.fst (kcell_inj (a₁ := (c, i)) (a₂ := (nb d j, f j)) h.1)
      rw [h2, prv_nb]
  rw [Finset.sum_congr rfl fun d _ => h1 d, Finset.sum_comm]
  exact Finset.sum_congr rfl fun j _ => by rw [Finset.sum_ite_eq' Finset.univ (prv c j), if_pos (Finset.mem_univ _)]

theorem owed_cell (c : Dev nD) (i : CI) : ∑ d : Dev nD, O₀ d (kcell c i) ()
    = (∑ j : Fin 31, if some ((3 : Fin 4), j) = i then Nq 3 else 0) + (∑ j : Fin 31, if some ((1 : Fin 4), j) = i then Nq 1 else 0)
      + ∑ j : Fin 31, if none = i then 1 else 0 := by
  rw [← owed_total (fun j => some (3, j)) (Nq 3) c i, ← owed_total (fun j => some (1, j)) (Nq 1) c i, ← owed_total (fun _ => none) 1 c i,
    ← Finset.sum_add_distrib, ← Finset.sum_add_distrib]
  refine Finset.sum_congr rfl fun d _ => ?_
  unfold O₀ oRow oBlk oBar
  rw [upFrom_zero, Pi.add_apply, Finsupp.add_apply, Pi.add_apply, Finsupp.add_apply]

theorem launch_cell (c : Dev nD) (i : CI) (N : ℕ) (h : ∑ d : Dev nD, O₀ d (kcell c i) () = N) :
    tallyOn (kcell c i) (launchCredit (Pipeline.owing O₀) 0 (kcell c i)) = (tallyAt (kcell c i) () N : CellTallies nD τ sig Unit) := by
  unfold tallyAt; refine congrArg _ (Finsupp.ext fun u => ?_); cases u
  rw [Pipeline.launchCredit_owing, Finsupp.single_eq_same]
  exact h

theorem launch_bar (c : Dev nD) :
    tallyOn (barCell c) (launchCredit (Pipeline.owing O₀) 0 (barCell c)) = (tallyAt (barCell c) () 31 : CellTallies nD τ sig Unit) :=
  launch_cell c none 31 (by rw [owed_cell]; simp)
theorem launch_blk (c : Dev nD) (j : Fin 31) :
    tallyOn (xCell 1 j c) (launchCredit (Pipeline.owing O₀) 0 (xCell 1 j c)) = (tallyAt (xCell 1 j c) () (Nq 1) : CellTallies nD τ sig Unit) :=
  launch_cell c _ _ (by rw [owed_cell]; simp)
theorem launch_row (c : Dev nD) (j : Fin 31) :
    tallyOn (xCell 3 j c) (launchCredit (Pipeline.owing O₀) 0 (xCell 3 j c)) = (tallyAt (xCell 3 j c) () (Nq 3) : CellTallies nD τ sig Unit) :=
  launch_cell c _ _ (by rw [owed_cell]; simp)

omit [FloatOps F] in
theorem creds (c : Dev nD) : (Pipeline.launchCred O₀ c : sProp 𝕄) ⊢ credsOf c := by
  have hs : (Pipeline.launchCred O₀ c : sProp 𝕄)
      ⊢ bigSep Finset.univ fun i : CI => cred (tallyOn (kcell c i) (launchCredit (Pipeline.owing O₀) 0 (kcell c i))) := by
    unfold Pipeline.launchCred
    refine (bigSep_subset (t := Finset.univ.map ⟨ksem, ksem_inj⟩) (Finset.subset_univ _)).trans ?_
    rw [bigSep_map]; exact BI.Entails.refl _
  refine hs.trans ?_
  rw [bigSep_cells, bigSep_pairs, launch_bar, bigSep_congr (fun j _ => congrArg _ (launch_blk c j)),
    bigSep_congr (fun j _ => congrArg _ (launch_row c j))]
  unfold credsOf credX
  iintro ⟨HB, -, H1, -, H3⟩
  isplitl [HB]; · iexact HB
  isplitl [H1] <;> iassumption

end Cert.Moe

end
-- ==== Proof.Launch.lean ====
/-
# The run

The launch's side conditions, and the run of the whole program on the 32 devices.
-/
module

public import proofs.«01_k».proof.Proof.Deal
public import Idealize.ShloMosaic.Lib.Pipeline.CollectiveSegs
public import Idealize.ShloMosaic.Lib.Pipeline.ValueKit.Geometry

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The side conditions of the launch -/

theorem ownSemFacts : Pipeline.OwnSemFacts cfg0.spec osem where
  isScoped := by decide +kernel
  inj := fun ⟨q, j⟩ ⟨q', j'⟩ h => by
    obtain ⟨rfl, rfl⟩ := dsm_inj (SemLoc.dma.inj h); rfl
  disj := by decide +kernel

theorem share_eq (c : Dev nD) (w : Fin cfg0.W) : (dats (F := F) m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
theorem scratch_eq (c : Dev nD) : (Pipeline.scopedRest cfg0.spec c : sProp 𝕄) = scratch (F := F) c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scratch_eq]
  unfold Φ₀
  iintro ⟨Hs, -, Hr⟩
  isplitl [Hs] <;> iassumption

theorem phi1_exit (c : Dev nD) :
    (dats (F := F) m 0 c).Φ (Fin.last cfg0.N) ⊢ iprop(unscopedSems0 c ∗ Pipeline.ownSems0 osem c ∗ Pipeline.scopedRest cfg0.spec c) := by
  rw [show (dats (F := F) m 0 c).Φ (Fin.last cfg0.N) = Φ₁ c from rfl, scratch_eq, ownSems0_eq, unscopedSems0_eq]
  unfold Φ₁
  iintro ⟨Hr, Hz, HzB⟩
  isplitl [HzB]; · iexact HzB
  isplitl [Hz] <;> iassumption

theorem stage_sem_lt : ∀ (w : Fin 6) (s), ((cfg0.win w).sem s).val < 6 := by decide +kernel

theorem waits (c : Dev nD) : (levAts L lv : sProp 𝕄) ⊢ Pipeline.cellsWaits cfgs (dats (F := F) m) () 0 c :=
  Pipeline.cellsWaits_intro cfgs (dats (F := F) m) () 0 c fun w s t =>
    mayWait_stage c _ (stage_sem_lt w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- On the 32 devices, for any float values, from any memory with counters at zero: every weakly fair execution of the
    program terminates, and in every final state each device's arrays hold what the run computes and every counter is zero. -/
theorem run_arrays : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends at the finished rows. -/
theorem final_out (c : Dev nD) : finalA m c (5 : Fin 6) = outA m :=
  (dats (F := F) m 0 c).arrAt_eq_of_after_last (5 : Fin 6) t0_0 (by decide +kernel) (outA m) (fun j => rfl) (Memref.isWhole_whole _)

/-- What a run ends with: every device's result is the finished rows, its arguments are unchanged, every counter is zero. -/
theorem run_main : θ_run defs (onTc (τ := τ) (main (F := F))) ⟨m, fun _ => 0, ρ⟩ (fun r => (∀ c : Dev nD,
      r.2.mem ((c : Thread nD τ).loc main_v1) = outA m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (final_out m c),
    (h.1 c (0 : Fin 6)).trans ((dats m 0 c).arrAt_in (0 : Fin 6) rfl _), (h.1 c (1 : Fin 6)).trans ((dats m 0 c).arrAt_in (1 : Fin 6) rfl _),
    (h.1 c (2 : Fin 6)).trans ((dats m 0 c).arrAt_in (2 : Fin 6) rfl _), (h.1 c (3 : Fin 6)).trans ((dats m 0 c).arrAt_in (3 : Fin 6) rfl _),
    (h.1 c (4 : Fin 6)).trans ((dats m 0 c).arrAt_in (4 : Fin 6) rfl _)⟩, h.2⟩) (run_arrays m ρ)

end Cert.Moe

end
-- ==== Proof.Frames.lean ====
/-
# The frames

Each program terminates without fault, leaves its arguments unchanged and every counter at zero. The two kernels have
one text, so both frames are the one run, at either reading of the floats.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Idealize.ShloMosaic Idealize.SL.Sem

/-- The two kernels' tables are one. -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  funext a
  match l, a with
  | 0, (t, s) => rfl
  | ⟨_ + 1, h⟩, _ => exact absurd h (Nat.not_lt.2 (Nat.le_add_left _ _))

/-- So are the tables with the pipeline's own entries. -/
theorem defs_eq : Cert.Kernel.defs (F := Bits) = Cert.KernelIdeal.defs (F := Bits) :=
  congrArg (Pipeline.defs Cert.KernelIdeal.pcfgs) defs₀_eq

/-- The entry points are one text. -/
theorem main_eq : Cert.Kernel.main (F := Bits) = Cert.KernelIdeal.main (F := Bits) := rfl

/-- The frame of the idealized kernel's text, at the machine's floats. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (run_main (F := Bits) m ρ)

/-- The kernel's frame: its text is the idealized kernel's, so the run of that one is its own. -/
theorem frame_kernel : Cert.quiescent_Kernel := fun m ρ _ => by
  rw [defs_eq, main_eq]
  exact frame_bits m ρ

/-- The idealized kernel's frame. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference's frame: it declares no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.Words.lean ====
/-
# The kernel's integer arithmetic

The kernel divides rounding down, and takes remainders that are never negative, by truncating operations and a
correction of the sign. Here each is the quotient or the remainder of a number, and a comparison of numbers is theirs.
-/
module

public import proofs.«01_k».proof.Proof.Shape
public import Idealize.ShloMosaic.Lib.Pointwise

@[expose] public section

noncomputable section

namespace Cert.Moe

open Cert.KernelIdeal Cert.KernelIdeal.Gen
open Idealize.ShloMosaic Idealize.ShloMosaic.TcCoe

/-- The quotient rounded down: the truncated one, one less where the signs differ and something is left over. -/
def quo (w k : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt k 0#32)) (Scalar.extui (Scalar.cmpi .slt k 0#32))))
      (IntOp.cmpi .ne (IntOp.remsi ArithUnit.vector w k) 0#32))
    (IntOp.subi (IntOp.divsi ArithUnit.vector w k) 1#32)
    (IntOp.divsi ArithUnit.vector w k)

/-- The divisor of the remainders, with zero replaced by one; -/
def dvs (k : BitVec 32) : BitVec 32 := Scalar.select (Scalar.cmpi .eq k 0#32) 1#32 k
/-- and the remainder with the divisor's sign. -/
def rmd (w k : BitVec 32) : BitVec 32 :=
  Scalar.select
    (IntOp.andi
      (IntOp.xori (IntOp.cmpi .slt (IntOp.remsi ArithUnit.vector w (dvs k)) 0#32) (Scalar.cmpi .slt (dvs k) 0#32))
      (IntOp.cmpi .ne (IntOp.remsi ArithUnit.vector w (dvs k)) 0#32))
    (IntOp.addi (IntOp.remsi ArithUnit.vector w (dvs k)) (dvs k))
    (IntOp.remsi ArithUnit.vector w (dvs k))

theorem quo_eq (w k : BitVec 32) :
    Scalar.select
      (IntOp.andi
        (IntOp.cmpi .ne
          (IntOp.subi (BitVec.setWidth 32 (IntOp.cmpi .sgt w 0#32)) (BitVec.setWidth 32 (IntOp.cmpi .slt w 0#32)))
          (Scalar.subi (Scalar.extui (Scalar.cmpi .sgt k 0#32)) (Scalar.extui (Scalar.cmpi .slt k 0#32))))
        (IntOp.cmpi .ne (IntOp.remsi ArithUnit.vector w k) 0#32))
      (IntOp.subi (IntOp.divsi ArithUnit.vector w k) 1#32)
      (IntOp.divsi ArithUnit.vector w k) = quo w k := rfl

theorem dvs_eq (k : BitVec 32) : Scalar.select (Scalar.cmpi .eq k 0#32) 1#32 k = dvs k := rfl

theorem rmd_eq (w k : BitVec 32) :
    Scalar.select
      (IntOp.andi
        (IntOp.xori (IntOp.cmpi .slt (IntOp.remsi ArithUnit.vector w (dvs k)) 0#32) (Scalar.cmpi .slt (dvs k) 0#32))
        (IntOp.cmpi .ne (IntOp.remsi ArithUnit.vector w (dvs k)) 0#32))
      (IntOp.addi (IntOp.remsi ArithUnit.vector w (dvs k)) (dvs k))
      (IntOp.remsi ArithUnit.vector w (dvs k)) = rmd w k := rfl

theorem quo32 : ∀ n : Fin 1024, quo (BitVec.ofNat 32 n.val) 32#32 = BitVec.ofNat 32 (n.val / 32) := by decide +kernel
theorem quo8 : ∀ n : Fin 256, quo (BitVec.ofNat 32 n.val) 8#32 = BitVec.ofNat 32 (n.val / 8) := by decide +kernel
theorem rmd8 : ∀ n : Fin 256, rmd (BitVec.ofNat 32 n.val) 8#32 = BitVec.ofNat 32 (n.val % 8) := by decide +kernel

/-- The device's number. -/
theorem word_eq (c : Dev nD) : word c = BitVec.ofNat 32 c.val := by revert c; decide +kernel
/-- The chunk that block `r / 8` of device `c` is for; -/
theorem chunk_word : ∀ (c : Fin 32) (r : Fin 256), IntOp.remsi ArithUnit.vector (IntOp.addi (BitVec.ofNat 32 c.val) (BitVec.ofNat 32 (r.val / 8))) 32#32 =
    BitVec.ofNat 32 ((c.val + r.val / 8) % 32) := by decide +kernel
/-- and the device that sent block `r / 8` that device `c` has. -/
theorem from_word : ∀ (c : Fin 32) (r : Fin 256), IntOp.remsi ArithUnit.vector (IntOp.addi (IntOp.subi (BitVec.ofNat 32 c.val) (BitVec.ofNat 32 (r.val / 8))) 32#32) 32#32 =
    BitVec.ofNat 32 ((c.val + 32 - r.val / 8) % 32) := by decide +kernel
/-- The number of device `c`'s `i`-th expert. -/
theorem gate_word : ∀ (c : Fin 32) (i : Fin 4), (Scalar.addi (Scalar.muli (BitVec.ofNat 32 c.val) 4#32) (BitVec.ofNat 32 i.val)).toInt =
    4 * (c.val : ℤ) + i.val := by decide +kernel

/-- Rounded down, a quotient by four is that of the integers. -/
theorem quo4 (w : BitVec 32) : (quo w 4#32).toInt = w.toInt / 4 := by
  have hd : IntOp.divsi ArithUnit.vector w 4#32 = w.sdiv 4#32 := if_neg (by unfold IntOp.SDivCorner; simp)
  have hr : IntOp.remsi ArithUnit.vector w 4#32 = w.srem 4#32 := if_neg (by unfold IntOp.SDivCorner; simp)
  have h4 : (4#32).toInt = 4 := by decide
  have h0 : (0#32).toInt = 0 := by decide
  have hb := BitVec.toInt_lt (x := w)
  have hb' := BitVec.le_toInt (x := w)
  have hp : ((2 ^ 32 : ℕ) : ℤ) = 4294967296 := by norm_num
  have ht : w.toInt.tdiv 4 * 4 + w.toInt.tmod 4 = w.toInt := by have := Int.mul_tdiv_add_tmod w.toInt 4; omega
  have hu : w.toInt.tmod 4 < 4 := Int.tmod_lt_of_pos _ (by decide)
  have hv : -4 < w.toInt.tmod 4 := by have := Int.neg_tmod w.toInt 4; have := Int.tmod_lt_of_pos (-w.toInt) (b := 4) (by decide); omega
  have hpos : 0 ≤ w.toInt → 0 ≤ w.toInt.tmod 4 := fun h => Int.tmod_nonneg 4 h
  have hneg : w.toInt ≤ 0 → w.toInt.tmod 4 ≤ 0 := fun h => by
    have := Int.neg_tmod w.toInt 4; have := Int.tmod_nonneg 4 (show 0 ≤ -w.toInt by omega); omega
  have hq : (w.sdiv 4#32).toInt = w.toInt.tdiv 4 := by
    rw [BitVec.toInt_sdiv, h4, Int.bmod_def, hp]
    split <;> omega
  have hm : (w.srem 4#32).toInt = w.toInt.tmod 4 := by rw [BitVec.toInt_srem, h4]
  have e1 : IntOp.cmpi .sgt w 0#32 = BitVec.ofBool (decide (0 < w.toInt)) := by
    unfold IntOp.cmpi; congr 1
  have e2 : IntOp.cmpi .slt w 0#32 = BitVec.ofBool (decide (w.toInt < 0)) := by
    unfold IntOp.cmpi; congr 1
  have e3 : IntOp.cmpi .ne (w.srem 4#32) 0#32 = BitVec.ofBool (decide (w.toInt.tmod 4 ≠ 0)) := by
    unfold IntOp.cmpi; congr 1
    rw [Bool.eq_iff_iff, bne_iff_ne, decide_eq_true_iff, ne_eq, ← BitVec.toInt_inj, hm, h0]
  have hs : (IntOp.subi (w.sdiv 4#32) 1#32).toInt = w.toInt.tdiv 4 - 1 := by
    unfold IntOp.subi
    rw [BitVec.toInt_sub, hq, show (1#32).toInt = 1 by decide, Int.bmod_def, hp]
    split <;> omega
  unfold quo
  rw [hd, hr, e1, e2, e3]
  rcases lt_trichotomy w.toInt 0 with h | h | h
  · rw [decide_eq_false (by omega : ¬ 0 < w.toInt), decide_eq_true h]
    by_cases hz : w.toInt.tmod 4 ≠ 0
    · rw [decide_eq_true hz]
      refine (congrArg BitVec.toInt (if_pos (by decide))).trans (hs.trans ?_)
      omega
    · rw [decide_eq_false hz]
      refine (congrArg BitVec.toInt (if_neg (by decide))).trans (hq.trans ?_)
      omega
  · rw [decide_eq_false (by omega : ¬ 0 < w.toInt), decide_eq_false (by omega : ¬ w.toInt < 0),
      decide_eq_false (by rw [h]; decide : ¬ w.toInt.tmod 4 ≠ 0)]
    refine (congrArg BitVec.toInt (if_neg (by decide))).trans (hq.trans ?_)
    omega
  · rw [decide_eq_true h, decide_eq_false (by omega : ¬ w.toInt < 0)]
    refine (congrArg BitVec.toInt (if_neg ?_)).trans (hq.trans ?_)
    · cases decide (w.toInt.tmod 4 ≠ 0) <;> decide
    · omega

/-- Comparisons of small numbers. -/
theorem cmp_eq {a b : ℕ} (ha : a < 2 ^ 32) (hb : b < 2 ^ 32) :
    IntOp.cmpi .eq (BitVec.ofNat 32 a) (BitVec.ofNat 32 b) = BitVec.ofBool (decide (a = b)) := by
  unfold IntOp.cmpi
  congr 1
  rw [Bool.eq_iff_iff, beq_iff_eq, decide_eq_true_iff, ← BitVec.toNat_inj, BitVec.toNat_ofNat, BitVec.toNat_ofNat,
    Nat.mod_eq_of_lt ha, Nat.mod_eq_of_lt hb]

theorem toInt_small {a : ℕ} (ha : a < 2 ^ 31) : (BitVec.ofNat 32 a).toInt = a := by
  rw [BitVec.toInt_eq_toNat_cond, BitVec.toNat_ofNat]; split <;> omega

theorem cmp_lt {a b : ℕ} (ha : a < 2 ^ 31) (hb : b < 2 ^ 31) :
    IntOp.cmpi .slt (BitVec.ofNat 32 a) (BitVec.ofNat 32 b) = BitVec.ofBool (decide (a < b)) := by
  unfold IntOp.cmpi
  congr 1
  rw [Bool.eq_iff_iff, BitVec.slt_iff_toInt_lt, decide_eq_true_iff, toInt_small ha, toInt_small hb]
  omega

/-- A word is a small number's exactly when its integer is that number. -/
theorem cmp_word (w : BitVec 32) {b : ℕ} (hb : b < 2 ^ 31) :
    IntOp.cmpi .eq w (BitVec.ofNat 32 b) = BitVec.ofBool (decide (w.toInt = b)) := by
  unfold IntOp.cmpi
  congr 1
  rw [Bool.eq_iff_iff, beq_iff_eq, decide_eq_true_iff, ← BitVec.toInt_inj, toInt_small hb]

/-- Both of two conditions; -/
theorem and_bool (p q : Bool) : IntOp.andi (BitVec.ofBool p) (BitVec.ofBool q) = BitVec.ofBool (p && q) := by
  cases p <;> cases q <;> rfl
/-- one of two values, by a condition. -/
theorem sel_bool {α : Type} (p : Bool) (x y : α) : Scalar.select (BitVec.ofBool p) x y = if p = true then x else y := by
  cases p <;> rfl

/-- A small number as a float. -/
theorem float_small {a : ℕ} (ha : a < 2 ^ 31) : (FloatOps.sitofp (F := Ideal) .f32 (BitVec.ofNat 32 a) : EReal) = (a : EReal) := by
  show (((BitVec.ofNat 32 a).toInt : ℝ) : EReal) = a
  rw [toInt_small ha]
  norm_num

end Cert.Moe

end
-- ==== Proof.Rank.lean ====
/-
# Owners and ranks

A token's owner is the device that holds its expert; its rank is the number of tokens before it in its chunk that have
the same owner. These are the two columns of the kernel's table.
-/
module

public import proofs.«01_k».proof.Proof.Words

@[expose] public section

noncomputable section

namespace Cert.Moe

open Cert.KernelIdeal Cert.KernelIdeal.Gen
open Idealize.ShloMosaic Idealize.ShloMosaic.TcCoe

/-- The tokens' experts. -/
abbrev IX : Type := Vec Ideal S1024x1 .i32

/-- Token `n`'s expert, -/
def xpt (ix : IX) (n : Fin 1024) : ℤ := BitVec.toInt (ix (ix2 n 0))
/-- its owner, -/
def own (ix : IX) (n : Fin 1024) : ℤ := xpt ix n / 4
/-- and its rank. -/
def rank (ix : IX) (n : Fin 1024) : ℕ :=
  (Finset.univ.filter fun a : Fin 1024 => (a.val < n.val ∧ a.val / 32 = n.val / 32) ∧ own ix a = own ix n).card

set_option maxRecDepth 16384

theorem ownI_toInt (ix : IX) (n : Fin 1024) : (ownI (F := Ideal) ix (ix2 n 0)).toInt = own ix n := by
  pointwise [ownI, k0_pay7, k0_pay2, k0_pay4, k0_pay5, k0_pay6]
  rw [quo_eq]
  exact quo4 _

theorem ownF_eq (ix : IX) (n : Fin 1024) : ownF (F := Ideal) ix (ix2 n 0) = ((own ix n : ℝ) : EReal) := by
  pointwise [ownF, k0_pay12]
  rw [← ownI_toInt]
  rfl

/-- A sum of ones is how many there are. -/
theorem sum_boole' {ι : Type} (s : Finset ι) (p : ι → Prop) [DecidablePred p] :
    (∑ a ∈ s, if p a then (1 : EReal) else 0) = ((s.filter p).card : EReal) := by
  rw [Finset.sum_ite, Finset.sum_const_zero, add_zero, Finset.sum_const, nsmul_one]

theorem rankF_eq (ix : IX) (n : Fin 1024) (h0 : 0 ≤ own ix n) (h1 : own ix n < 32) :
    rankF (F := Ideal) ix (ix2 n 0) = (rank ix n : EReal) := by
  pointwise [rankF, k0_pay11, k0_pay8, k0_pay9, k0_pay10]
  simp only [quo_eq, quo32]
  obtain ⟨d, hd⟩ : ∃ d : Fin 32, own ix n = (d.val : ℤ) := ⟨⟨(own ix n).toNat, by omega⟩, by simp only []; omega⟩
  have hx : ∀ (a : Fin 1024) (x : Fin 32), IntOp.cmpi .eq (ownI (F := Ideal) ix (ix2 a 0)) (BitVec.ofNat 32 x.val) =
      BitVec.ofBool (decide (own ix a = x.val)) := fun a x => by
    rw [cmp_word _ (by have := x.isLt; omega), ownI_toInt]
  have hc : ∀ a : Fin 1024, IntOp.cmpi .slt (BitVec.ofNat 32 a.val) (BitVec.ofNat 32 n.val) = BitVec.ofBool (decide (a.val < n.val)) :=
    fun a => cmp_lt (by have := a.isLt; omega) (by have := n.isLt; omega)
  have hq : ∀ a : Fin 1024, IntOp.cmpi .eq (BitVec.ofNat 32 (a.val / 32)) (BitVec.ofNat 32 (n.val / 32)) =
      BitVec.ofBool (decide (a.val / 32 = n.val / 32)) :=
    fun a => cmp_eq (by have := a.isLt; omega) (by have := n.isLt; omega)
  simp only [hx, hc, hq, and_bool, sel_bool, decide_eq_true_eq, Bool.and_eq_true]
  rw [Finset.sum_eq_single d (fun x _ hxd => if_neg fun h => hxd (Fin.ext (by omega))) (fun h => absurd (Finset.mem_univ d) h),
    if_pos hd]
  unfold rank
  rw [← sum_boole']
  refine Finset.sum_congr rfl fun a _ => ?_
  rw [hd]
  by_cases h : own ix a = d.val
  · simp only [h, if_true, and_true]
  · simp only [h, if_false, and_false]

end Cert.Moe

end
-- ==== Proof.Slots.lean ====
/-
# Which token is in which slot

Row `r` of the blocks that device `c` sends is slot `r % 8` of the block for the device `r / 8` after it. The kernel
picks the token with that rank, among those of that device's chunk whose expert is `c`'s.
-/
module

public import proofs.«01_k».proof.Proof.Rank

@[expose] public section

noncomputable section

namespace Cert.Moe

open Cert.KernelIdeal Cert.KernelIdeal.Gen
open Idealize.ShloMosaic Idealize.ShloMosaic.TcCoe

/-- Token `n` is in row `r` of what device `c` sends. -/
abbrev InSlot (ix : IX) (c : Dev nD) (r : Fin 256) (n : Fin 1024) : Prop :=
  (own ix n = c.val ∧ rank ix n = r.val % 8) ∧ n.val / 32 = (c.val + r.val / 8) % 32

/-- The matrix of slots, as the kernel has it. -/
abbrev slots (c : Dev nD) (ix : IX) : FVec Ideal S256x1024 .f32 :=
  k0_pay21 (slotSel (F := Ideal) c ix) (rowChunk c) k0_pay18 k0_pay19 k0_pay20

set_option maxRecDepth 16384

theorem slots_eq (ix : IX) (c : Dev nD) (r : Fin 256) (n : Fin 1024) :
    slots c ix (ix2 r n) = if InSlot ix c r n then 1 else 0 := by
  pointwise [slots, slotSel, k0_pay14, rowChunk, k0_pay17, k0_pay15, k0_pay16, k0_pay18, k0_pay19, k0_pay20, k0_pay21]
  simp only [quo_eq, dvs_eq, rmd_eq, quo32, quo8, rmd8, word_eq, chunk_word]
  have hr : ∀ x : Fin 8, IntOp.cmpi .eq (BitVec.ofNat 32 (r.val % 8)) (BitVec.ofNat 32 x.val) = BitVec.ofBool (decide (r.val % 8 = x.val)) :=
    fun x => cmp_eq (by have := r.isLt; omega) (by have := x.isLt; omega)
  have hn : ∀ x : Fin 32, IntOp.cmpi .eq (BitVec.ofNat 32 (n.val / 32)) (BitVec.ofNat 32 x.val) = BitVec.ofBool (decide (n.val / 32 = x.val)) :=
    fun x => cmp_eq (by have := n.isLt; omega) (by have := x.isLt; omega)
  have hk : ∀ x : Fin 32, IntOp.cmpi .eq (BitVec.ofNat 32 ((c.val + r.val / 8) % 32)) (BitVec.ofNat 32 x.val) = BitVec.ofBool (decide ((c.val + r.val / 8) % 32 = x.val)) :=
    fun x => cmp_eq (by omega) (by have := x.isLt; omega)
  have ho : IntOp.cmpi .eq (ownI (F := Ideal) ix (ix2 n 0)) (BitVec.ofNat 32 c.val) = BitVec.ofBool (decide (own ix n = c.val)) := by
    rw [cmp_word _ (by have : c.val < 32 := c.isLt; omega), ownI_toInt]
  simp only [hr, hn, hk, ho, and_bool, sel_bool, decide_eq_true_eq, Bool.and_eq_true]
  have h2 : (∑ x : Fin 32, if n.val / 32 = x.val then if (c.val + r.val / 8) % 32 = x.val then (1 : EReal) else 0 else 0) =
      if n.val / 32 = (c.val + r.val / 8) % 32 then 1 else 0 := by
    rw [Finset.sum_eq_single (⟨n.val / 32, by have := n.isLt; omega⟩ : Fin 32)
      (fun x _ hx => if_neg fun h => hx (Fin.ext h.symm)) (fun h => absurd (Finset.mem_univ _) h), if_pos rfl]
    exact if_congr eq_comm rfl rfl
  refine (congrArg (_ * ·) h2).trans ?_
  by_cases ho : own ix n = c.val
  · have hc : c.val < 32 := c.isLt
    have hf : ∀ x : Fin 8, (rankF (F := Ideal) ix (ix2 n 0) = FloatOps.sitofp (F := Ideal) .f32 (BitVec.ofNat 32 x.val) ∧ own ix n = c.val) ↔ rank ix n = x.val := fun x => by
      rw [rankF_eq ix n (by omega) (by omega), float_small (by have := x.isLt; omega)]
      exact ⟨fun h => EReal.natCast_eq_iff.1 h.1, fun h => ⟨EReal.natCast_eq_iff.2 h, ho⟩⟩
    have h1 : (∑ x : Fin 8, if rank ix n = x.val then if r.val % 8 = x.val then (1 : EReal) else 0 else 0) =
        if rank ix n = r.val % 8 then 1 else 0 := by
      rw [Finset.sum_eq_single (⟨r.val % 8, by omega⟩ : Fin 8)
        (fun x _ hx => by
          split
          · exact if_neg fun h => hx (Fin.ext h.symm)
          · rfl) (fun h => absurd (Finset.mem_univ _) h), if_pos rfl]
    simp only [hf]
    rw [h1]
    by_cases ha : rank ix n = r.val % 8 <;> by_cases hb : n.val / 32 = (c.val + r.val / 8) % 32 <;>
      simp only [InSlot, ho, ha, hb, if_true, if_false, and_true, and_false, mul_one, mul_zero]
  · simp only [InSlot, ho, and_false, false_and, if_false, Finset.sum_const_zero, zero_mul]

end Cert.Moe

end
-- ==== Proof.Blocks.lean ====
/-
# What a slot of the blocks holds

A slot that holds a token has that token's row times its expert's matrix, scaled by the probability that its expert
gets.
-/
module

public import proofs.«01_k».proof.Proof.Slots

@[expose] public section

noncomputable section

namespace Cert.Moe

open Cert.KernelIdeal Cert.KernelIdeal.Gen
open Idealize.ShloMosaic Idealize.ShloMosaic.TcCoe

/-- No two tokens are in one row of the blocks. -/
theorem inSlot_unique (ix : IX) (c : Dev nD) (r : Fin 256) {a b : Fin 1024} (ha : InSlot ix c r a) (hb : InSlot ix c r b) : a = b := by
  have key : ∀ {a b : Fin 1024}, InSlot ix c r a → InSlot ix c r b → ¬ a.val < b.val := fun {a b} ha hb hlt => by
    refine absurd (hb.1.2.trans ha.1.2.symm) (ne_of_gt (Finset.card_lt_card ?_))
    refine Finset.ssubset_iff_of_subset (fun x hx => ?_) |>.2 ⟨a, ?_, ?_⟩
    · rw [Finset.mem_filter] at hx ⊢
      refine ⟨hx.1, ⟨by omega, by rw [hx.2.1.2, ha.2, hb.2]⟩, by rw [hx.2.2, ha.1.1, hb.1.1]⟩
    · rw [Finset.mem_filter]
      exact ⟨Finset.mem_univ _, ⟨hlt, by rw [ha.2, hb.2]⟩, by rw [ha.1.1, hb.1.1]⟩
    · rw [Finset.mem_filter]
      exact fun h => absurd h.2.1.1 (lt_irrefl _)
  have := key ha hb
  have := key hb ha
  exact Fin.ext (by omega)

/-- A sum over the tokens, weighed by a row of the slots, is the value at the token in that row. -/
theorem sum_slot (ix : IX) (c : Dev nD) (r : Fin 256) {n : Fin 1024} (hn : InSlot ix c r n) (f : Fin 1024 → EReal) :
    (∑ a : Fin 1024, slots c ix (ix2 r a) * f a) = f n := by
  rw [Finset.sum_eq_single n (fun a _ ha => by
    rw [slots_eq, if_neg (fun h => ha (inSlot_unique ix c r h hn)), zero_mul]) (fun h => absurd (Finset.mem_univ _) h),
    slots_eq, if_pos hn, one_mul]

set_option maxRecDepth 16384

theorem sendV_eq (c : Dev nD) (x : Vec Ideal S1024x256 .f32) (rw : Vec Ideal S256x128 .f32) (ix : IX)
    (w : Fin 4 → Vec Ideal S1x256x512 .f32) (r : Fin 256) (h : Fin 512) {n : Fin 1024} (hn : InSlot ix c r n) (j : Fin 4)
    (hj : xpt ix n = 4 * c.val + j.val) :
    sendV (F := Ideal) c x rw ix (w 0) (w 1) (w 2) (w 3) (ix2 r h) =
      probSel x rw ix (ix2 n 0) * ∑ d : Fin 256, x (ix2 n d) * w j (ix3 0 d h) := by
  pointwise [sendV, k0_pay28, k0_pay22, k0_pay23, k0_pay24, k0_pay25, k0_pay26, k0_pay27, k0_pay1, k0_pay2]
  have hs : ∀ f : Fin 1024 → EReal, (∑ a : Fin 1024, k0_pay21 (slotSel (F := Ideal) c ix) (rowChunk c) k0_pay18 k0_pay19 k0_pay20 (ix2 r a) * f a) = f n :=
    sum_slot ix c r hn
  have he : ∀ i : Fin 4, ((FloatOps.sitofp (F := Ideal) .f32 (ix (ix2 n 0)) : EReal) =
      (((Scalar.addi (Scalar.muli (word c) 4#32) (BitVec.ofNat 32 i.val)).toInt : ℝ) : EReal)) ↔ j = i := fun i => by
    have hw : (Scalar.addi (Scalar.muli (word c) 4#32) (BitVec.ofNat 32 i.val)).toInt = 4 * (c.val : ℤ) + i.val := by
      rw [word_eq]; exact gate_word c i
    rw [hw]
    show (((xpt ix n : ℤ) : ℝ) : EReal) = _ ↔ _
    rw [hj, EReal.coe_eq_coe_iff, Int.cast_inj]
    exact ⟨fun h => Fin.ext (by omega), fun h => by rw [h]⟩
  have h0 := he 0
  have h1 := he 1
  have h2 := he 2
  have h3 := he 3
  simp only [Fin.isValue, Fin.val_zero, Fin.val_one, Fin.val_two, show (3 : Fin 4).val = 3 from rfl] at h0 h1 h2 h3
  simp only [hs]
  simp only [h0, h1, h2, h3]
  fin_cases j <;> simp

end Cert.Moe

end
-- ==== Proof.Picks.lean ====
/-
# Which row a token takes

Device `c` finishes the tokens of its own chunk. Token `n` takes, of the 256 rows received, the one in the block of its
owner at the place of its rank, and adds the shared expert's row.
-/
module

public import proofs.«01_k».proof.Proof.Blocks

@[expose] public section

noncomputable section

namespace Cert.Moe

open Cert.KernelIdeal Cert.KernelIdeal.Gen
open Idealize.ShloMosaic Idealize.ShloMosaic.TcCoe

set_option maxRecDepth 16384

/-- The table's second column is the rank. -/
theorem rankF'_eq (ix : IX) (n : Fin 1024) : rankF' (F := Ideal) ix (ix2 n 0) = rankF (F := Ideal) ix (ix2 n 0) := by
  pointwise [rankF', k0_pay13]
  rfl

/-- The picks' matrix. -/
theorem pick_eq (c : Dev nD) (o k : Vec Ideal S32x1 .f32) (i : Fin 32) (r : Fin 256) :
    pick (F := Ideal) c o k (ix2 i r) =
      if o (ix2 i 0) = (((c.val + 32 - r.val / 8) % 32 : ℕ) : EReal) ∧ k (ix2 i 0) = ((r.val % 8 : ℕ) : EReal) then 1 else 0 := by
  pointwise [pick, k0_pay34, k0_pay31, k0_pay32, k0_pay33]
  simp only [quo_eq, dvs_eq, rmd_eq, quo8, rmd8, word_eq, from_word, and_bool, sel_bool, Bool.and_eq_true, decide_eq_true_eq]
  rw [float_small (by omega), float_small (by omega)]

/-- The finished rows. -/
theorem doneV_eq (c : Dev nD) (xc : Vec Ideal S32x256 .f32) (sw : Vec Ideal S256x512 .f32) (o k : Vec Ideal S32x1 .f32)
    (rb : Vec Ideal S256x512 .bf16) (i : Fin 32) (h : Fin 512) :
    doneV (F := Ideal) c xc sw o k rb (ix2 i h) =
      (∑ r : Fin 256, pick (F := Ideal) c o k (ix2 i r) * rb (ix2 r h)) + ∑ d : Fin 256, xc (ix2 i d) * sw (ix2 d h) := by
  pointwise [doneV, k0_pay35, k0_pay30]

end Cert.Moe

end
-- ==== Proof.Capacity.lean ====
/-
# What the precondition says

Of each chunk of 32 tokens, no more than 8 have one owner: so a token with an owner has a rank below 8.
-/
module

public import Idealize.ShloMosaic.Lib.ReduceAll
public import Idealize.ShloMosaic.Lib.WordCmp
public import Idealize.ShloMosaic.Lib.StableHlo.Predicate
public import proofs.«01_k».proof.Proof.Rank
public import proofs.«01_k».proof.Pre_capacity_KernelIdeal
public import proofs.«01_k».proof.Pre_capacity_ReferenceIdeal

@[expose] public section

noncomputable section

namespace Cert.Moe

open Idealize.ShloMosaic Idealize.ShloMosaic.TcCoe

set_option maxRecDepth 16384

theorem capFacts : Cert.Pre_capacity_KernelIdeal.Facts :=
  ⟨by decide, by decide, by decide, by decide, by decide, by decide, by decide, by decide, by decide, by decide, by decide⟩
theorem capFacts' : Cert.Pre_capacity_ReferenceIdeal.Facts :=
  ⟨by decide, by decide, by decide, by decide, by decide, by decide, by decide, by decide, by decide, by decide, by decide⟩

/-- Token `t` of chunk `k`. -/
def tok (k t : Fin 32) : Fin 1024 := ⟨k.val * 32 + t.val, by omega⟩

/-- An expert is device `d`'s when it lies in `d`'s four. -/
theorem owned (w : BitVec 32) (d : Fin 32) :
    IntOp.andi (IntOp.cmpi .sge w (IntOp.muli 4#32 (BitVec.ofNat 32 d.val)))
      (IntOp.cmpi .slt w (IntOp.addi (IntOp.muli 4#32 (BitVec.ofNat 32 d.val)) 4#32)) =
    BitVec.ofBool (decide (w.toInt / 4 = (d.val : ℤ))) := by
  have h1 : ∀ d : Fin 32, (IntOp.muli 4#32 (BitVec.ofNat 32 d.val)).toInt = 4 * (d.val : ℤ) := by decide +kernel
  have h2 : ∀ d : Fin 32, (IntOp.addi (IntOp.muli 4#32 (BitVec.ofNat 32 d.val)) 4#32).toInt = 4 * (d.val : ℤ) + 4 := by decide +kernel
  rw [WordCmp.cmpi_sge_eq, WordCmp.cmpi_slt_eq, h1, h2, and_bool]
  refine congrArg BitVec.ofBool (Bool.eq_iff_iff.2 ?_)
  simp only [Bool.and_eq_true, decide_eq_true_eq]
  omega

section
open Cert.Pre_capacity_KernelIdeal
variable [Facts]

/-- The predicate, read: no more than 8 tokens of a chunk have one owner. -/
theorem cap_count (x : FVec Ideal S1024x256 .f32) (rw : FVec Ideal S256x128 .f32) (ix : IVec S1024x1 32) (ew : FVec Ideal S4x256x512 .f32)
    (sw : FVec Ideal S256x512 .f32) (H : fn (F := Ideal) x rw ix ew sw = fun _ => 1#1) (k d : Fin 32) :
    (Finset.univ.filter fun t : Fin 32 => own ix (tok k t) = (d.val : ℤ)).card ≤ 8 := by
  have e := Host.reduce_andi_all _ _ _ _ ix0 (congrFun H ix0) (ix2 k d)
  revert e
  pointwise []
  simp only [owned]
  intro e
  have hv : ∀ t : Fin 32, (BitVec.setWidth 32 (BitVec.ofBool (decide ((ix (ix2 (tok k t) 0)).toInt / 4 = (d.val : ℤ))))).toNat =
      if own ix (tok k t) = (d.val : ℤ) then 1 else 0 := fun t => by
    unfold own xpt
    by_cases h : (ix (ix2 (tok k t) 0)).toInt / 4 = (d.val : ℤ)
    · rw [if_pos h, decide_eq_true h]; rfl
    · rw [if_neg h, decide_eq_false h]; rfl
  have hs : (∑ t : Fin 32, (BitVec.setWidth 32 (BitVec.ofBool (decide ((ix (ix2 (tok k t) 0)).toInt / 4 = (d.val : ℤ))))).toNat) =
      (Finset.univ.filter fun t : Fin 32 => own ix (tok k t) = (d.val : ℤ)).card := by
    rw [Finset.card_filter]
    exact Finset.sum_congr rfl fun t _ => hv t
  have hc : (Finset.univ.filter fun t : Fin 32 => own ix (tok k t) = (d.val : ℤ)).card ≤ 32 :=
    (Finset.card_le_univ _).trans (by decide)
  have hf := StableHlo.Predicate.toNat_fold_addi Finset.univ
    (fun t : Fin 32 => BitVec.setWidth 32 (BitVec.ofBool (decide ((ix (ix2 (tok k t) 0)).toInt / 4 = (d.val : ℤ))))) (by rw [hs]; omega)
  rw [hs] at hf
  have hle := IntOp.cmpi_sle.1 e
  generalize hw : Finset.fold IntOp.addi _ _ _ = w at hle
  have hww : w.toNat = (Finset.univ.filter fun t : Fin 32 => own ix (tok k t) = (d.val : ℤ)).card := by rw [← hw]; exact hf
  rw [BitVec.toInt_eq_toNat_of_lt (by omega), hww] at hle
  have : (8#32 : BitVec 32).toInt = 8 := by decide
  omega
end

/-- A token with an owner has a rank below 8. -/
theorem rank_lt (ix : IX) (hcap : ∀ k d : Fin 32, (Finset.univ.filter fun t : Fin 32 => own ix (tok k t) = (d.val : ℤ)).card ≤ 8)
    (n : Fin 1024) (h0 : 0 ≤ own ix n) (h1 : own ix n < 32) : rank ix n < 8 := by
  refine lt_of_lt_of_le ?_ (hcap ⟨n.val / 32, by omega⟩ ⟨(own ix n).toNat, by omega⟩)
  unfold rank
  have ht : ∀ a : Fin 1024, a.val / 32 = n.val / 32 → tok ⟨n.val / 32, by omega⟩ ⟨a.val % 32, by omega⟩ = a := fun a ha =>
    Fin.ext (by unfold tok; simp only []; omega)
  rw [← Finset.card_image_of_injOn (f := fun a : Fin 1024 => (⟨a.val % 32, by omega⟩ : Fin 32)) (fun a ha b hb hab => by
    have ha := (Finset.mem_filter.1 (Finset.mem_coe.1 ha)).2.1.2
    have hb := (Finset.mem_filter.1 (Finset.mem_coe.1 hb)).2.1.2
    have hab := congrArg Fin.val hab
    simp only [] at hab
    exact Fin.ext (by omega))]
  refine Finset.card_lt_card (Finset.ssubset_iff_of_subset (fun t ht' => ?_) |>.2 ⟨⟨n.val % 32, by omega⟩, ?_, fun hm => ?_⟩)
  · obtain ⟨a, ha, rfl⟩ := Finset.mem_image.1 ht'
    have ha := (Finset.mem_filter.1 ha).2
    refine Finset.mem_filter.2 ⟨Finset.mem_univ _, ?_⟩
    rw [ht a ha.1.2, ha.2]
    simp only []
    omega
  · refine Finset.mem_filter.2 ⟨Finset.mem_univ _, ?_⟩
    rw [ht n rfl]
    simp only []
    omega
  · obtain ⟨a, ha, hh⟩ := Finset.mem_image.1 hm
    have ha := (Finset.mem_filter.1 ha).2.1
    have hh := congrArg Fin.val hh
    simp only [] at hh
    omega

end Cert.Moe

end
-- ==== Proof.Reference.lean ====
/-
# The reference at an index

Row `n` of the reference is the shared expert's row plus, of the 128 experts' rows, the one of the token's expert,
scaled by the probability that the token gives it.
-/
module

public import proofs.«01_k».proof.Proof.Picks
public import proofs.«01_k».proof.Proof.Gen.ReferenceIdeal.Run

@[expose] public section

noncomputable section

namespace Cert.Moe.Ref

open Cert.ReferenceIdeal Cert.ReferenceIdeal.Gen Facts
open Idealize.ShloMosaic Idealize.ShloMosaic.TcCoe

set_option maxRecDepth 16384

/-- The reference's result. -/
def refOut (x : FVec Ideal S1024x256 .f32) (rw : FVec Ideal S256x128 .f32) (ix : IVec S1024x1 32) (ew : FVec Ideal S128x256x512 .f32)
    (sw : FVec Ideal S256x512 .f32) : FVec Ideal S1024x512 .f32 :=
  addf (Host.dotGeneral dot_S1024x256_S256x512_S1024x512_1_0_0_1_n_n none x sw) (Host.reduceAdd (mulf (broadcastInDim S128x1024x512 ![0, 1, 2] bcast_S128x1024x1_S128x1024x512_0_1_2 (broadcastInDim S128x1024x1 ![0, 1] bcast_S128x1024_S128x1024x1_0_1 (transpose S128x1024 [1, 0] (select (cmpi .eq (broadcastInDim S1024x128 ![0, 1] bcast_S1024x1_S1024x128_0_1 ix) (broadcastInDim S1024x128 ![0, 1] bcast_S1x128_S1024x128_0_1 (broadcastInDim S1x128 ![1] bcast_S128_S1x128_1 (iotaInDim S128 32 0)))) (Host.divf (Host.exp (subf (Host.dotGeneral dot_S1024x256_S256x128_S1024x128_1_0_0_1_n_n none x rw) (broadcastInDim S1024x128 ![0, 1] bcast_S1024x1_S1024x128_0_1 (broadcastInDim S1024x1 ![0] bcast_S1024_S1024x1_0 (Host.reduce FloatOps.maximumf (Host.dotGeneral dot_S1024x256_S256x128_S1024x128_1_0_0_1_n_n none x rw) (constant S_ .f32 0xFF800000#32) reducesTo_S1024x128_S1024_d1 h_S_))))) (broadcastInDim S1024x128 ![0, 1] bcast_S1024x1_S1024x128_0_1 (broadcastInDim S1024x1 ![0] bcast_S1024_S1024x1_0 (Host.reduceAdd (Host.exp (subf (Host.dotGeneral dot_S1024x256_S256x128_S1024x128_1_0_0_1_n_n none x rw) (broadcastInDim S1024x128 ![0, 1] bcast_S1024x1_S1024x128_0_1 (broadcastInDim S1024x1 ![0] bcast_S1024_S1024x1_0 (Host.reduce FloatOps.maximumf (Host.dotGeneral dot_S1024x256_S256x128_S1024x128_1_0_0_1_n_n none x rw) (constant S_ .f32 0xFF800000#32) reducesTo_S1024x128_S1024_d1 h_S_))))) (constant S_ .f32 0x00000000#32) reducesTo_S1024x128_S1024_d1 h_S_)))) (broadcastInDim S1024x128 ![] bcast_S_S1024x128 (id (constant S_ .f32 0x00000000#32)))) transposes_S1024x128_S128x1024_1_0))) (transpose S128x1024x512 [0, 2, 1] (Host.dotGeneral dot_S128x256x512_S1024x256_S128x512x1024_1_1_02_0_n_n none ew x) transposes_S128x512x1024_S128x1024x512_0_2_1)) (constant S_ .f32 0x00000000#32) reducesTo_S128x1024x512_S1024x512_d0 h_S_)

/-- The probability that token `n` gives expert `e`. -/
def gate (x : FVec Ideal S1024x256 .f32) (rw : FVec Ideal S256x128 .f32) (n : Fin 1024) (e : Fin 128) : EReal :=
  Ideal.div
    (Ideal.exp
      ((∑ d : Fin 256, x (ix2 n d) * rw (ix2 d e)) -
        Finset.fold max (Ideal.ofBits FTy.f32 4286578688#32) (fun b : Fin 128 => ∑ d : Fin 256, x (ix2 n d) * rw (ix2 d b)) Finset.univ))
    (∑ a : Fin 128,
      Ideal.exp
        ((∑ d : Fin 256, x (ix2 n d) * rw (ix2 d a)) -
          Finset.fold max (Ideal.ofBits FTy.f32 4286578688#32) (fun b : Fin 128 => ∑ d : Fin 256, x (ix2 n d) * rw (ix2 d b)) Finset.univ))

/-- A word is `e`'s, by its integer. -/
theorem word_iff (w : BitVec 32) (e : Fin 128) : IntOp.cmpi .eq w (BitVec.ofNat 32 e.val) = BitVec.ofBool (decide (w.toInt = e.val)) :=
  cmp_word w (by have := e.isLt; omega)

theorem word_iff' (w : BitVec 32) (e : Fin 128) : IntOp.cmpi .eq (BitVec.ofNat 32 e.val) w = BitVec.ofBool (decide (w.toInt = e.val)) := by
  rw [← word_iff]
  unfold IntOp.cmpi
  exact congrArg BitVec.ofBool (Bool.eq_iff_iff.2 (by rw [beq_iff_eq, beq_iff_eq]; exact eq_comm))

/-- Row `n` of the reference, with the experts' sum; -/
theorem refOut_eq (x : FVec Ideal S1024x256 .f32) (rw : FVec Ideal S256x128 .f32) (ix : IVec S1024x1 32) (ew : FVec Ideal S128x256x512 .f32)
    (sw : FVec Ideal S256x512 .f32) (n : Fin 1024) (h : Fin 512) :
    refOut x rw ix ew sw (ix2 n h) = (∑ d : Fin 256, x (ix2 n d) * sw (ix2 d h)) +
      ∑ e : Fin 128, (if xpt ix n = (e.val : ℤ) then gate x rw n e else 0) * ∑ d : Fin 256, x (ix2 n d) * ew (ix3 e d h) := by
  pointwise [refOut]
  refine congrArg (_ + ·) (Finset.sum_congr rfl fun e _ => ?_)
  rw [word_iff, sel_bool]
  simp only [decide_eq_true_eq, mul_comm (ew _)]
  refine congrArg (· * _) (if_congr Iff.rfl rfl ?_)
  exact Ideal.ofBits_zero_f32

/-- of a token with an expert; -/
theorem refOut_hit (x : FVec Ideal S1024x256 .f32) (rw : FVec Ideal S256x128 .f32) (ix : IVec S1024x1 32) (ew : FVec Ideal S128x256x512 .f32)
    (sw : FVec Ideal S256x512 .f32) (n : Fin 1024) (h : Fin 512) (e : Fin 128) (he : xpt ix n = (e.val : ℤ)) :
    refOut x rw ix ew sw (ix2 n h) = (∑ d : Fin 256, x (ix2 n d) * sw (ix2 d h)) +
      gate x rw n e * ∑ d : Fin 256, x (ix2 n d) * ew (ix3 e d h) := by
  rw [refOut_eq, Finset.sum_eq_single e (fun a _ ha => by
    rw [if_neg fun hh => ha (Fin.ext (by omega)), zero_mul]) (fun hh => absurd (Finset.mem_univ e) hh), if_pos he]

/-- and of a token without one. -/
theorem refOut_miss (x : FVec Ideal S1024x256 .f32) (rw : FVec Ideal S256x128 .f32) (ix : IVec S1024x1 32) (ew : FVec Ideal S128x256x512 .f32)
    (sw : FVec Ideal S256x512 .f32) (n : Fin 1024) (h : Fin 512) (he : ∀ e : Fin 128, xpt ix n ≠ (e.val : ℤ)) :
    refOut x rw ix ew sw (ix2 n h) = ∑ d : Fin 256, x (ix2 n d) * sw (ix2 d h) := by
  rw [refOut_eq]
  exact (congrArg (_ + ·) (Finset.sum_eq_zero fun e _ => by rw [if_neg (he e), zero_mul])).trans (add_zero _)

/-- The kernel's probability of a token's own expert. -/
theorem probSel_eq (x : FVec Ideal S1024x256 .f32) (rw : FVec Ideal S256x128 .f32) (ix : IVec S1024x1 32) (n : Fin 1024) (e : Fin 128)
    (he : xpt ix n = (e.val : ℤ)) : probSel (F := Ideal) x rw ix (ix2 n 0) = gate x rw n e := by
  pointwise [probSel, Cert.KernelIdeal.Gen.k0_pay3, Cert.KernelIdeal.Gen.k0_pay1, Cert.KernelIdeal.Gen.k0_pay2]
  simp only [word_iff', sel_bool, decide_eq_true_eq]
  have hx : BitVec.toInt (ix (ix2 n 0)) = (e.val : ℤ) := he
  refine (Finset.sum_eq_single e (fun a _ ha => if_neg fun hh => ha (Fin.ext (by omega)))
    (fun hh => absurd (Finset.mem_univ e) hh)).trans ?_
  rw [if_pos hx]
  rfl

end Cert.Moe.Ref

end
-- ==== Proof.Rows.lean ====
/-
# A finished row

The row that the kernel finishes for token `n` is the reference's row `n`. A token with an owner has a rank below 8, so it
lies in one slot of its chunk's block at the owner: the picks' sum has that one term. A token without one is picked nowhere.
-/
module

public import proofs.«01_k».proof.Proof.Blocks
public import proofs.«01_k».proof.Proof.Picks
public import proofs.«01_k».proof.Proof.Capacity
public import proofs.«01_k».proof.Proof.Reference
public import proofs.«01_k».proof.Proof.Launch
public import Idealize.ShloMosaic.Lib.Layout

@[expose] public section

noncomputable section

namespace Cert.Moe

open Cert.KernelIdeal Cert.KernelIdeal.Gen
open Idealize.ShloMosaic Idealize.ShloMosaic.TcCoe

set_option maxRecDepth 16384

/-! ## Reads -/

/-- Device `c`'s expert `j` is the array's expert `4 c + j`. -/
theorem block_ew (c : Fin 32) (EW : FVec Ideal ⟨3, ![128, 256, 512]⟩ .f32) (j : Fin 4) (d : Fin 256) (h : Fin 512) (H) :
    Layout.block ⟨3, ![4, 256, 512]⟩ ⟨3, ![128, 256, 512]⟩ 0 32 c EW H (ix3 j d h) =
      EW (ix3 ⟨4 * c.val + j.val, by omega⟩ d h) := by
  refine congrArg EW (funext fun a => Fin.ext ?_)
  match a with
  | ⟨0, _⟩ => exact (show c.val * 4 + j.val = 4 * c.val + j.val by omega)
  | ⟨1, _⟩ => rfl
  | ⟨2, _⟩ => rfl

theorem read_w0 (f : Vec Ideal S4x256x512 .f32) (d : Fin 256) (h : Fin 512) :
    (ewM : Memref sig .tc .vmem S4x256x512 .f32).view.readAt (Elt Ideal) rW0.toLoadRect f (ix3 0 d h) = f (ix3 0 d h) := by
  refine congrArg f (funext fun a => Fin.ext ?_)
  match a with
  | ⟨0, _⟩ => rfl
  | ⟨1, _⟩ => exact (show 0 + 1 * d.val = d.val by omega)
  | ⟨2, _⟩ => exact (show 0 + 1 * h.val = h.val by omega)
theorem read_w1 (f : Vec Ideal S4x256x512 .f32) (d : Fin 256) (h : Fin 512) :
    (ewM : Memref sig .tc .vmem S4x256x512 .f32).view.readAt (Elt Ideal) rW1.toLoadRect f (ix3 0 d h) = f (ix3 1 d h) := by
  refine congrArg f (funext fun a => Fin.ext ?_)
  match a with
  | ⟨0, _⟩ => rfl
  | ⟨1, _⟩ => exact (show 0 + 1 * d.val = d.val by omega)
  | ⟨2, _⟩ => exact (show 0 + 1 * h.val = h.val by omega)
theorem read_w2 (f : Vec Ideal S4x256x512 .f32) (d : Fin 256) (h : Fin 512) :
    (ewM : Memref sig .tc .vmem S4x256x512 .f32).view.readAt (Elt Ideal) rW2.toLoadRect f (ix3 0 d h) = f (ix3 2 d h) := by
  refine congrArg f (funext fun a => Fin.ext ?_)
  match a with
  | ⟨0, _⟩ => rfl
  | ⟨1, _⟩ => exact (show 0 + 1 * d.val = d.val by omega)
  | ⟨2, _⟩ => exact (show 0 + 1 * h.val = h.val by omega)
theorem read_w3 (f : Vec Ideal S4x256x512 .f32) (d : Fin 256) (h : Fin 512) :
    (ewM : Memref sig .tc .vmem S4x256x512 .f32).view.readAt (Elt Ideal) rW3.toLoadRect f (ix3 0 d h) = f (ix3 3 d h) := by
  refine congrArg f (funext fun a => Fin.ext ?_)
  match a with
  | ⟨0, _⟩ => rfl
  | ⟨1, _⟩ => exact (show 0 + 1 * d.val = d.val by omega)
  | ⟨2, _⟩ => exact (show 0 + 1 * h.val = h.val by omega)

theorem read_xc (c : Dev nD) (f : Vec Ideal S1024x256 .f32) (i : Fin 32) (d : Fin 256) (hb : 32 * c.val + i.val < 1024) :
    (xM : Memref sig .tc .vmem S1024x256 .f32).view.readAt (Elt Ideal) (rXc c).toLoadRect f (ix2 i d) = f (ix2 ⟨32 * c.val + i.val, hb⟩ d) := by
  have e := k0_off1_eq c
  refine congrArg f (funext fun a => Fin.ext ?_)
  match a with
  | ⟨0, _⟩ => exact (show k0_off1 c 0 + 1 * i.val = 32 * c.val + i.val by
      rw [e]; exact (show 32 * c.val + 1 * i.val = _ by omega))
  | ⟨1, _⟩ => exact (show k0_off1 c 1 + 1 * d.val = d.val by
      rw [e]; exact (show 0 + 1 * d.val = _ by omega))

/-! ## The row -/

theorem nat_coe_iff (z : ℤ) (k : ℕ) : (((z : ℝ) : EReal) = (k : EReal)) ↔ z = (k : ℤ) := by
  rw [← EReal.coe_natCast, EReal.coe_eq_coe_iff]
  exact_mod_cast Iff.rfl

theorem nat_nat_iff (a k : ℕ) : ((a : EReal) = (k : EReal)) ↔ a = k := Nat.cast_inj

section
variable (m : (ℓ : Loc nD τ sig) → Buf (Elt Ideal) ℓ) (X : FVec Ideal S1024x256 .f32) (RW : FVec Ideal S256x128 .f32) (IX' : IX)
  (EW : FVec Ideal ⟨3, ![128, 256, 512]⟩ .f32) (SW : FVec Ideal S256x512 .f32)

/-- What device `o` sends in the slot of token `n`. -/
theorem sendA_eq (o : Dev nD) (hx : xA m o = X) (hr : rwA m o = RW) (hi : ixA m o = IX')
    (he : ewA m o = Layout.block ⟨3, ![4, 256, 512]⟩ ⟨3, ![128, 256, 512]⟩ 0 32 o EW) (r : Fin 256) (h : Fin 512) {n : Fin 1024}
    (hn : InSlot IX' o r n) (e : Fin 128) (hne : xpt IX' n = (e.val : ℤ)) :
    sendA m o (ix2 r h) = Ref.gate X RW n e * ∑ d : Fin 256, X (ix2 n d) * EW (ix3 e d h) := by
  have ho : xpt IX' n / 4 = (o.val : ℤ) := hn.1.1
  have hj : xpt IX' n = 4 * o.val + ((⟨e.val - 4 * o.val, by omega⟩ : Fin 4).val : ℤ) := by
    show xpt IX' n = 4 * o.val + ((e.val - 4 * o.val : ℕ) : ℤ)
    omega
  unfold sendA
  rw [hx, hr, hi, he]
  have hs := sendV_eq o X RW IX' (fun j => match j with
    | 0 => (ewM : Memref sig .tc .vmem S4x256x512 .f32).view.readAt (Elt Ideal) rW0.toLoadRect (Layout.block ⟨3, ![4, 256, 512]⟩ ⟨3, ![128, 256, 512]⟩ 0 32 o EW)
    | 1 => (ewM : Memref sig .tc .vmem S4x256x512 .f32).view.readAt (Elt Ideal) rW1.toLoadRect (Layout.block ⟨3, ![4, 256, 512]⟩ ⟨3, ![128, 256, 512]⟩ 0 32 o EW)
    | 2 => (ewM : Memref sig .tc .vmem S4x256x512 .f32).view.readAt (Elt Ideal) rW2.toLoadRect (Layout.block ⟨3, ![4, 256, 512]⟩ ⟨3, ![128, 256, 512]⟩ 0 32 o EW)
    | 3 => (ewM : Memref sig .tc .vmem S4x256x512 .f32).view.readAt (Elt Ideal) rW3.toLoadRect (Layout.block ⟨3, ![4, 256, 512]⟩ ⟨3, ![128, 256, 512]⟩ 0 32 o EW))
    r h hn _ hj
  refine hs.trans ?_
  rw [Ref.probSel_eq X RW IX' n e hne]
  refine congrArg (_ * ·) (Finset.sum_congr rfl fun d _ => congrArg (X (ix2 n d) * ·) ?_)
  generalize hjj : (⟨e.val - 4 * o.val, by omega⟩ : Fin 4) = j
  have hv : 4 * o.val + j.val = e.val := by
    rw [← hjj]
    show 4 * o.val + (e.val - 4 * o.val) = e.val
    omega
  have hb : Layout.block ⟨3, ![4, 256, 512]⟩ ⟨3, ![128, 256, 512]⟩ 0 32 o EW (by decide) (ix3 j d h) = EW (ix3 e d h) :=
    (block_ew o EW j d h _).trans (congrArg (fun k => EW (ix3 k d h)) (Fin.ext hv))
  refine Eq.trans ?_ hb
  match j with
  | 0 => exact read_w0 _ d h
  | 1 => exact read_w1 _ d h
  | 2 => exact read_w2 _ d h
  | 3 => exact read_w3 _ d h

/-- The row of token `n`. -/
theorem row_eq (hx : ∀ c, xA m c = X) (hr : ∀ c, rwA m c = RW) (hi : ∀ c, ixA m c = IX')
    (he : ∀ c : Dev nD, ewA m c = Layout.block ⟨3, ![4, 256, 512]⟩ ⟨3, ![128, 256, 512]⟩ 0 32 c EW) (hs : ∀ c, swA m c = SW)
    (hcap : ∀ k d : Fin 32, (Finset.univ.filter fun t : Fin 32 => own IX' (tok k t) = (d.val : ℤ)).card ≤ 8)
    (n : Fin 1024) (h : Fin 512) : rowsA m (ix2 n h) = Ref.refOut X RW IX' EW SW (ix2 n h) := by
  have hc : n.val / 32 < 32 := by omega
  have hrow : ∀ H, chunkRow (⟨n.val / 32, hc⟩ : Fin 32) (ix2 ⟨n.val % 32, H⟩ 0) = ix2 n 0 := fun H => by
    funext a
    match a with
    | ⟨0, _⟩ => exact Fin.ext (show 32 * (n.val / 32) + n.val % 32 = n.val by omega)
    | ⟨1, _⟩ => rfl
  have hr0 : n.val % 32 < 32 := by omega
  have hP : ∀ r : Fin 256, pick (F := Ideal) (⟨n.val / 32, hc⟩ : Fin 32) (fun i => ownF IX' (chunkRow (⟨n.val / 32, hc⟩ : Fin 32) i))
      (fun i => rankF' IX' (chunkRow (⟨n.val / 32, hc⟩ : Fin 32) i)) (ix2 ⟨n.val % 32, hr0⟩ r) =
      if own IX' n = (((n.val / 32 + 32 - r.val / 8) % 32 : ℕ) : ℤ) ∧ rank IX' n = r.val % 8 then 1 else 0 := fun r => by
    rw [pick_eq]
    simp only [hrow, ownF_eq, rankF'_eq, nat_coe_iff]
    by_cases ho : own IX' n = (((n.val / 32 + 32 - r.val / 8) % 32 : ℕ) : ℤ)
    · rw [rankF_eq IX' n (by omega) (by omega)]
      simp only [nat_nat_iff]
    · simp only [ho, false_and, if_false]
  have hX : ∀ d : Fin 256, (xM : Memref sig .tc .vmem S1024x256 .f32).view.readAt (Elt Ideal) (rXc (⟨n.val / 32, hc⟩ : Fin 32)).toLoadRect X
      (ix2 ⟨n.val % 32, hr0⟩ d) = X (ix2 n d) := fun d =>
    (read_xc _ X ⟨n.val % 32, hr0⟩ d (show 32 * (n.val / 32) + n.val % 32 < 1024 by omega)).trans
      (congrArg (fun k => X (ix2 k d)) (Fin.ext (show 32 * (n.val / 32) + n.val % 32 = n.val by omega)))
  have hD : rowsA m (ix2 n h) = doneA m (⟨n.val / 32, hc⟩ : Fin 32) (ix2 ⟨n.val % 32, hr0⟩ h) := rfl
  rw [hD]
  unfold doneA
  rw [hx, hs, hi, doneV_eq]
  simp only [hP, hX]
  by_cases ho : ∃ e : Fin 128, xpt IX' n = (e.val : ℤ)
  · obtain ⟨e, hne⟩ := ho
    rw [Ref.refOut_hit X RW IX' EW SW n h e hne, add_comm]
    refine congrArg (_ + ·) ?_
    have hown : own IX' n = ((e.val / 4 : ℕ) : ℤ) := by unfold own; omega
    have hk := rank_lt IX' hcap n (by omega) (by omega)
    have hlt : 8 * ((n.val / 32 + 32 - e.val / 4) % 32) + rank IX' n < 256 := by omega
    rw [Finset.sum_eq_single (⟨8 * ((n.val / 32 + 32 - e.val / 4) % 32) + rank IX' n, hlt⟩ : Fin 256)
      (fun r _ hne' => ?_) (fun hh => absurd (Finset.mem_univ _) hh)]
    · rw [if_pos ⟨by rw [hown]; simp only []; omega, by simp only []; omega⟩, one_mul]
      have hb : recvA m (⟨n.val / 32, hc⟩ : Fin 32) (ix2 (⟨8 * ((n.val / 32 + 32 - e.val / 4) % 32) + rank IX' n, hlt⟩ : Fin 256) h) =
          sendA m (⟨e.val / 4, by omega⟩ : Fin 32) (ix2 (⟨8 * ((n.val / 32 + 32 - e.val / 4) % 32) + rank IX' n, hlt⟩ : Fin 256) h) := by
        refine congrArg (fun o => sendA m o (ix2 (⟨8 * ((n.val / 32 + 32 - e.val / 4) % 32) + rank IX' n, hlt⟩ : Fin 256) h)) (Fin.ext ?_)
        show (n.val / 32 + (32 - (8 * ((n.val / 32 + 32 - e.val / 4) % 32) + rank IX' n) / 8)) % 32 = e.val / 4
        omega
      rw [hb]
      exact sendA_eq m X RW IX' EW _ (hx _) (hr _) (hi _) (he _) _ h
        ⟨⟨hown, by simp only []; omega⟩, by simp only []; omega⟩ e hne
    · rw [if_neg, zero_mul]
      rintro ⟨h1, h2⟩
      refine hne' (Fin.ext ?_)
      rw [hown] at h1
      simp only []
      omega
  · have ho : ∀ e : Fin 128, xpt IX' n ≠ (e.val : ℤ) := fun e he => ho ⟨e, he⟩
    rw [Ref.refOut_miss X RW IX' EW SW n h ho, Finset.sum_eq_zero, zero_add]
    intro r _
    rw [if_neg, zero_mul]
    rintro ⟨h1, -⟩
    refine ho ⟨(xpt IX' n).toNat, ?_⟩ ?_
    · unfold own at h1; omega
    · unfold own at h1
      simp only []
      omega

/-- All the rows. -/
theorem out_eq (hx : ∀ c, xA m c = X) (hr : ∀ c, rwA m c = RW) (hi : ∀ c, ixA m c = IX')
    (he : ∀ c : Dev nD, ewA m c = Layout.block ⟨3, ![4, 256, 512]⟩ ⟨3, ![128, 256, 512]⟩ 0 32 c EW) (hs : ∀ c, swA m c = SW)
    (hcap : ∀ k d : Fin 32, (Finset.univ.filter fun t : Fin 32 => own IX' (tok k t) = (d.val : ℤ)).card ≤ 8) :
    outA m = Ref.refOut X RW IX' EW SW := by
  funext i
  have hi' : i = ix2 (i 0) (i 1) := funext fun a => by
    match a with
    | ⟨0, _⟩ => rfl
    | ⟨1, _⟩ => rfl
  rw [hi']
  exact row_eq m X RW IX' EW SW hx hr hi he hs hcap (i 0) (i 1)
end

end Cert.Moe

end
-- ==== Proof.Values.lean ====
/-
# The values

At exact arithmetic, of arguments that satisfy the precondition, every device's result is the reference's.
-/
module

public import proofs.«01_k».proof.Defs
public import proofs.«01_k».proof.Proof.Frames
public import proofs.«01_k».proof.Proof.Rows

@[expose] public section

noncomputable section

namespace Cert.Moe

open Idealize.ShloMosaic Idealize.SL.Sem

/-- The frames of the runs that the precondition selects are among the frames of all runs. -/
theorem frame_kernelIdeal_cap [Cert.Pre_capacity_KernelIdeal.Facts] : Cert.quiescent_KernelIdeal_pre_capacity_KernelIdeal :=
  fun m ρ _ => frame_kernelIdeal m ρ trivial
theorem frame_reference_cap [Cert.Pre_capacity_ReferenceIdeal.Facts] : Cert.quiescent_ReferenceIdeal_pre_capacity_ReferenceIdeal :=
  fun m ρ _ => frame_reference m ρ trivial

/-- The kernel computes the reference. -/
theorem values [Cert.Pre_capacity_KernelIdeal.Facts] : Cert.algebraic_KernelIdeal_ReferenceIdeal_pre_capacity_KernelIdeal := by
  intro m ρ m' ρ' hpre hag
  have hout := out_eq m _ _ _ _ _ (fun c => (hag c).1) (fun c => (hag c).2.1) (fun c => (hag c).2.2.1) (fun c => (hag c).2.2.2.1)
    (fun c => (hag c).2.2.2.2) (fun k d => by
      have h := cap_count _ _ _ _ _ (hpre (0 : Fin 32)) k d
      rw [(hag (0 : Fin 32)).2.2.1] at h
      exact h)
  refine ⟨outA m, (θ_run Cert.KernelIdeal.defs _ _).mono (fun r h => h.1) (run_main (F := Ideal) m ρ),
    (θ_run Cert.ReferenceIdeal.defs _ _).mono (fun r h => ?_) (Cert.ReferenceIdeal.Value.run (F := Ideal) m' ρ')⟩
  have h0 := h (0 : Fin 1)
  exact ⟨h0.1.trans hout.symm, h0.2⟩

end Cert.Moe

end
-- ==== Proof.lean ====
/-
# The claims

The frames come from one run of the kernel, the values from what that run leaves in the result.
-/
module

public import proofs.«01_k».proof.Defs
public import proofs.«01_k».proof.Proof.Values

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Moe.capFacts, Cert.Moe.capFacts',
    Cert.Moe.frame_kernel, Cert.Moe.frame_kernelIdeal, @Cert.Moe.frame_kernelIdeal_cap Cert.Moe.capFacts, Cert.Moe.frame_reference,
    @Cert.Moe.frame_reference_cap Cert.Moe.capFacts', trivial, @Cert.Moe.values Cert.Moe.capFacts⟩

end Cert.Proof

end
